-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)) (v1 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_v5) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_v19) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S64x3x224x224 : Shape := ⟨4, ![64, 3, 224, 224]⟩
abbrev S64 : Shape := ⟨1, ![64]⟩
abbrev S4x64 : Shape := ⟨2, ![4, 64]⟩
abbrev S256x3x224x224 : Shape := ⟨4, ![256, 3, 224, 224]⟩
abbrev S1x3x224x224 : Shape := ⟨4, ![1, 3, 224, 224]⟩
abbrev S1x1 : Shape := ⟨2, ![1, 1]⟩
abbrev S64x1 : Shape := ⟨2, ![64, 1]⟩
abbrev S64x128 : Shape := ⟨2, ![64, 128]⟩
abbrev S256x128 : Shape := ⟨2, ![256, 128]⟩
abbrev S_ : Shape := ⟨0, ![]⟩
abbrev S1x128 : Shape := ⟨2, ![1, 128]⟩
abbrev S128 : Shape := ⟨1, ![128]⟩
abbrev S256x1 : Shape := ⟨2, ![256, 1]⟩
abbrev S256 : Shape := ⟨1, ![256]⟩

abbrev nBuf : Table → Nat
  | .hbm => 8
  | .local .tc .vmem => 4
  | .local .tc .smem => 1
  | .shared => 1
  | _ => 0

abbrev bufTy : (tb : Table) → Fin (nBuf tb) → BufTy
  | .hbm, ⟨0, _⟩ => ⟨S64x3x224x224, .f32⟩
  | .hbm, ⟨1, _⟩ => ⟨S64, .i32⟩
  | .hbm, ⟨2, _⟩ => ⟨S256x3x224x224, .f32⟩
  | .hbm, ⟨3, _⟩ => ⟨S64x1, .i32⟩
  | .hbm, ⟨4, _⟩ => ⟨S64x128, .i32⟩
  | .hbm, ⟨5, _⟩ => ⟨S256x128, .i32⟩
  | .hbm, ⟨6, _⟩ => ⟨S256x1, .i32⟩
  | .hbm, ⟨7, _⟩ => ⟨S256, .i32⟩
  | .local .tc .vmem, ⟨0, _⟩ => ⟨S1x3x224x224, .f32⟩
  | .local .tc .vmem, ⟨1, _⟩ => ⟨S1x3x224x224, .f32⟩
  | .local .tc .vmem, ⟨2, _⟩ => ⟨S1x3x224x224, .f32⟩
  | .local .tc .vmem, ⟨3, _⟩ => ⟨S1x3x224x224, .f32⟩
  | .local .tc .smem, ⟨0, _⟩ => ⟨S4x64, .i32⟩
  | .shared, ⟨0, _⟩ => ⟨S64x128, .i32⟩
  | _, _ => ⟨S64x3x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.smem, 0, rfl⟩
abbrev main_v2_scs : Ref sig .scScalar := ⟨.hbm, 4, rfl⟩
abbrev main_v3_scs : Ref sig .scScalar := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scScalar := ⟨.shared, 0, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![64, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let v0 : Index := Scalar.indexCast arg1
  let arg0 : BitVec 32 := BitVec.ofNat 32 (i 0).val
  let v1 : Index := Scalar.indexCast arg0
  ![v0.toNat, v1.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (k0_off1_inb : ∀ i : grid0.Coords, ∀ a, (k0_off1 i) a + S1x1.size a ≤ S4x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : Index := Scalar.indexCast arg0
  let v2 : BitVec 32 := pf.at 0 (Rect.unit (s := S4x64) ![v0.toNat, v1.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![2], ![false]⟩

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S64x3x224x224 : Shape := ⟨4, ![64, 3, 224, 224]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S1x64x3x224x224 : Shape := ⟨5, ![1, 64, 3, 224, 224]⟩
abbrev S4x64x3x224x224 : Shape := ⟨5, ![4, 64, 3, 224, 224]⟩
abbrev S1x64 : Shape := ⟨2, ![1, 64]⟩
abbrev S4x64 : Shape := ⟨2, ![4, 64]⟩
abbrev S256x3x224x224 : Shape := ⟨4, ![256, 3, 224, 224]⟩
abbrev S256 : Shape := ⟨1, ![256]⟩

abbrev nBuf : Space → Nat
  | .hbm => 198
  | .vmem => 0
  | .smem => 0
  | _ => 0

abbrev hbmTy0_0 (i : Nat) : BufTy := match i % 128 with
  | 0 => ⟨S64x3x224x224, .f32⟩
  | 1 => ⟨S64, .i32⟩
  | 2 => ⟨S64, .i32⟩
  | 3 => ⟨S64, .i32⟩
  | 4 => ⟨S64, .i32⟩
  | 5 => ⟨S64, .i32⟩
  | 6 => ⟨S_, .i32⟩
  | 7 => ⟨S64, .i32⟩
  | 8 => ⟨S64, .i1⟩
  | 9 => ⟨S_, .i32⟩
  | 10 => ⟨S64, .i32⟩
  | 11 => ⟨S64, .i32⟩
  | 12 => ⟨S64, .i32⟩
  | 13 => ⟨S64x1, .i32⟩
  | 14 => ⟨S1, .i32⟩
  | 15 => ⟨S_, .i32⟩
  | 16 => ⟨S64x1, .i32⟩
  | 17 => ⟨S64x1, .i1⟩
  | 18 => ⟨S1x1, .i32⟩
  | 19 => ⟨S64x1, .i32⟩
  | 20 => ⟨S64x1, .i1⟩
  | 21 => ⟨S64x1, .i1⟩
  | 22 => ⟨S_, .i1⟩
  | 23 => ⟨S64, .i1⟩
  | 24 => ⟨S64x3x224x224, .f32⟩
  | 25 => ⟨S64x3x224x224, .i1⟩
  | 26 => ⟨S_, .f32⟩
  | 27 => ⟨S64x3x224x224, .f32⟩
  | 28 => ⟨S64x3x224x224, .f32⟩
  | 29 => ⟨S_, .i32⟩
  | 30 => ⟨S64, .i32⟩
  | 31 => ⟨S64, .i1⟩
  | 32 => ⟨S_, .i32⟩
  | 33 => ⟨S64, .i32⟩
  | 34 => ⟨S64, .i32⟩
  | 35 => ⟨S64, .i32⟩
  | 36 => ⟨S64x1, .i32⟩
  | 37 => ⟨S1, .i32⟩
  | 38 => ⟨S_, .i32⟩
  | 39 => ⟨S64x1, .i32⟩
  | 40 => ⟨S64x1, .i1⟩
  | 41 => ⟨S1x1, .i32⟩
  | 42 => ⟨S64x1, .i32⟩
  | 43 => ⟨S64x1, .i1⟩
  | 44 => ⟨S64x1, .i1⟩
  | 45 => ⟨S_, .i1⟩
  | 46 => ⟨S64, .i1⟩
  | 47 => ⟨S64x3x224x224, .f32⟩
  | 48 => ⟨S64x3x224x224, .i1⟩
  | 49 => ⟨S_, .f32⟩
  | 50 => ⟨S64x3x224x224, .f32⟩
  | 51 => ⟨S64x3x224x224, .f32⟩
  | 52 => ⟨S_, .i32⟩
  | 53 => ⟨S64, .i32⟩
  | 54 => ⟨S64, .i1⟩
  | 55 => ⟨S_, .i32⟩
  | 56 => ⟨S64, .i32⟩
  | 57 => ⟨S64, .i32⟩
  | 58 => ⟨S64, .i32⟩
  | 59 => ⟨S64x1, .i32⟩
  | 60 => ⟨S1, .i32⟩
  | 61 => ⟨S_, .i32⟩
  | 62 => ⟨S64x1, .i32⟩
  | 63 => ⟨S64x1, .i1⟩
  | 64 => ⟨S1x1, .i32⟩
  | 65 => ⟨S64x1, .i32⟩
  | 66 => ⟨S64x1, .i1⟩
  | 67 => ⟨S64x1, .i1⟩
  | 68 => ⟨S_, .i1⟩
  | 69 => ⟨S64, .i1⟩
  | 70 => ⟨S64x3x224x224, .f32⟩
  | 71 => ⟨S64x3x224x224, .i1⟩
  | 72 => ⟨S_, .f32⟩
  | 73 => ⟨S64x3x224x224, .f32⟩
  | 74 => ⟨S64x3x224x224, .f32⟩
  | 75 => ⟨S_, .i32⟩
  | 76 => ⟨S64, .i32⟩
  | 77 => ⟨S64, .i1⟩
  | 78 => ⟨S_, .i32⟩
  | 79 => ⟨S64, .i32⟩
  | 80 => ⟨S64, .i32⟩
  | 81 => ⟨S64, .i32⟩
  | 82 => ⟨S64x1, .i32⟩
  | 83 => ⟨S1, .i32⟩
  | 84 => ⟨S_, .i32⟩
  | 85 => ⟨S64x1, .i32⟩
  | 86 => ⟨S64x1, .i1⟩
  | 87 => ⟨S1x1, .i32⟩
  | 88 => ⟨S64x1, .i32⟩
  | 89 => ⟨S64x1, .i1⟩
  | 90 => ⟨S64x1, .i1⟩
  | 91 => ⟨S_, .i1⟩
  | 92 => ⟨S64, .i1⟩
  | 93 => ⟨S64x3x224x224, .f32⟩
  | 94 => ⟨S64x3x224x224, .i1⟩
  | 95 => ⟨S_, .f32⟩
  | 96 => ⟨S64x3x224x224, .f32⟩
  | 97 => ⟨S64x3x224x224, .f32⟩
  | 98 => ⟨S1x64x3x224x224, .f32⟩
  | 99 => ⟨S1x64x3x224x224, .f32⟩
  | 100 => ⟨S1x64x3x224x224, .f32⟩
  | 101 => ⟨S1x64x3x224x224, .f32⟩
  | 102 => ⟨S4x64x3x224x224, .f32⟩
  | 103 => ⟨S_, .i32⟩
  | 104 => ⟨S64, .i32⟩
  | 105 => ⟨S64, .i1⟩
  | 106 => ⟨S_, .i32⟩
  | 107 => ⟨S64, .i32⟩
  | 108 => ⟨S64, .i32⟩
  | 109 => ⟨S64, .i32⟩
  | 110 => ⟨S64x1, .i32⟩
  | 111 => ⟨S1, .i32⟩
  | 112 => ⟨S_, .i32⟩
  | 113 => ⟨S64x1, .i32⟩
  | 114 => ⟨S64x1, .i1⟩
  | 115 => ⟨S1x1, .i32⟩
  | 116 => ⟨S64x1, .i32⟩
  | 117 => ⟨S64x1, .i1⟩
  | 118 => ⟨S64x1, .i1⟩
  | 119 => ⟨S_, .i1⟩
  | 120 => ⟨S64, .i1⟩
  | 121 => ⟨S64, .i32⟩
  | 122 => ⟨S_, .i32⟩
  | 123 => ⟨S64, .i32⟩
  | 124 => ⟨S64, .i32⟩
  | 125 => ⟨S_, .i32⟩
  | 126 => ⟨S64, .i32⟩
  | 127 => ⟨S64, .i1⟩
  | _ => ⟨S64x3x224x224, .f32⟩

abbrev hbmTy0_1 (i : Nat) : BufTy := match i % 128 with
  | 0 => ⟨S_, .i32⟩
  | 1 => ⟨S64, .i32⟩
  | 2 => ⟨S64, .i32⟩
  | 3 => ⟨S64, .i32⟩
  | 4 => ⟨S64x1, .i32⟩
  | 5 => ⟨S1, .i32⟩
  | 6 => ⟨S_, .i32⟩
  | 7 => ⟨S64x1, .i32⟩
  | 8 => ⟨S64x1, .i1⟩
  | 9 => ⟨S1x1, .i32⟩
  | 10 => ⟨S64x1, .i32⟩
  | 11 => ⟨S64x1, .i1⟩
  | 12 => ⟨S64x1, .i1⟩
  | 13 => ⟨S_, .i1⟩
  | 14 => ⟨S64, .i1⟩
  | 15 => ⟨S64, .i32⟩
  | 16 => ⟨S_, .i32⟩
  | 17 => ⟨S64, .i32⟩
  | 18 => ⟨S64, .i32⟩
  | 19 => ⟨S_, .i32⟩
  | 20 => ⟨S64, .i32⟩
  | 21 => ⟨S64, .i1⟩
  | 22 => ⟨S_, .i32⟩
  | 23 => ⟨S64, .i32⟩
  | 24 => ⟨S64, .i32⟩
  | 25 => ⟨S64, .i32⟩
  | 26 => ⟨S64x1, .i32⟩
  | 27 => ⟨S1, .i32⟩
  | 28 => ⟨S_, .i32⟩
  | 29 => ⟨S64x1, .i32⟩
  | 30 => ⟨S64x1, .i1⟩
  | 31 => ⟨S1x1, .i32⟩
  | 32 => ⟨S64x1, .i32⟩
  | 33 => ⟨S64x1, .i1⟩
  | 34 => ⟨S64x1, .i1⟩
  | 35 => ⟨S_, .i1⟩
  | 36 => ⟨S64, .i1⟩
  | 37 => ⟨S64, .i32⟩
  | 38 => ⟨S_, .i32⟩
  | 39 => ⟨S64, .i32⟩
  | 40 => ⟨S64, .i32⟩
  | 41 => ⟨S_, .i32⟩
  | 42 => ⟨S64, .i32⟩
  | 43 => ⟨S64, .i1⟩
  | 44 => ⟨S_, .i32⟩
  | 45 => ⟨S64, .i32⟩
  | 46 => ⟨S64, .i32⟩
  | 47 => ⟨S64, .i32⟩
  | 48 => ⟨S64x1, .i32⟩
  | 49 => ⟨S1, .i32⟩
  | 50 => ⟨S_, .i32⟩
  | 51 => ⟨S64x1, .i32⟩
  | 52 => ⟨S64x1, .i1⟩
  | 53 => ⟨S1x1, .i32⟩
  | 54 => ⟨S64x1, .i32⟩
  | 55 => ⟨S64x1, .i1⟩
  | 56 => ⟨S64x1, .i1⟩
  | 57 => ⟨S_, .i1⟩
  | 58 => ⟨S64, .i1⟩
  | 59 => ⟨S64, .i32⟩
  | 60 => ⟨S_, .i32⟩
  | 61 => ⟨S64, .i32⟩
  | 62 => ⟨S64, .i32⟩
  | 63 => ⟨S1x64, .i32⟩
  | 64 => ⟨S1x64, .i32⟩
  | 65 => ⟨S1x64, .i32⟩
  | 66 => ⟨S1x64, .i32⟩
  | 67 => ⟨S4x64, .i32⟩
  | 68 => ⟨S256x3x224x224, .f32⟩
  | 69 => ⟨S256, .i32⟩
  | _ => ⟨S64x3x224x224, .f32⟩

abbrev hbmTy (i : Nat) : BufTy := match i / 128 with
  | 0 => hbmTy0_0 i
  | 1 => hbmTy0_1 i
  | _ => ⟨S64x3x224x224, .f32⟩

abbrev bufTy : (tb : Table) → Fin (tcTables nBuf tb) → BufTy
  | .hbm, ⟨i, _⟩ => hbmTy i
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v2 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_cst : Ref sig .tc := ⟨.hbm, 95, rfl⟩
abbrev main_call3_v15 : Ref sig .tc := ⟨.hbm, 96, rfl⟩
abbrev main_v3 : Ref sig .tc := ⟨.hbm, 97, rfl⟩
abbrev main_v4 : Ref sig .tc := ⟨.hbm, 98, rfl⟩
abbrev main_v5 : Ref sig .tc := ⟨.hbm, 99, rfl⟩
abbrev main_v6 : Ref sig .tc := ⟨.hbm, 100, rfl⟩
abbrev main_v7 : Ref sig .tc := ⟨.hbm, 101, rfl⟩
abbrev main_v8 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_c_4 : Ref sig .tc := ⟨.hbm, 122, rfl⟩
abbrev main_call4_v14 : Ref sig .tc := ⟨.hbm, 123, rfl⟩
abbrev main_v9 : Ref sig .tc := ⟨.hbm, 124, rfl⟩
abbrev main_call5_c : Ref sig .tc := ⟨.hbm, 125, rfl⟩
abbrev main_call5_v0 : Ref sig .tc := ⟨.hbm, 126, rfl⟩
abbrev main_call5_v1 : Ref sig .tc := ⟨.hbm, 127, rfl⟩
abbrev main_call5_c_0 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_v5 : Ref sig .tc := ⟨.hbm, 132, rfl⟩
abbrev main_call5_c_1 : Ref sig .tc := ⟨.hbm, 133, rfl⟩
abbrev main_call5_c_2 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_c_3 : Ref sig .tc := ⟨.hbm, 141, rfl⟩
abbrev main_call5_v12 : Ref sig .tc := ⟨.hbm, 142, rfl⟩
abbrev main_call5_v13 : Ref sig .tc := ⟨.hbm, 143, rfl⟩
abbrev main_call5_c_4 : Ref sig .tc := ⟨.hbm, 144, rfl⟩
abbrev main_call5_v14 : Ref sig .tc := ⟨.hbm, 145, rfl⟩
abbrev main_v10 : Ref sig .tc := ⟨.hbm, 146, rfl⟩
abbrev main_call6_c : Ref sig .tc := ⟨.hbm, 147, rfl⟩
abbrev main_call6_v0 : Ref sig .tc := ⟨.hbm, 148, rfl⟩
abbrev main_call6_v1 : Ref sig .tc := ⟨.hbm, 149, rfl⟩
abbrev main_call6_c_0 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_v5 : Ref sig .tc := ⟨.hbm, 154, rfl⟩
abbrev main_call6_c_1 : Ref sig .tc := ⟨.hbm, 155, rfl⟩
abbrev main_call6_c_2 : Ref sig .tc := ⟨.hbm, 156, rfl⟩
abbrev main_call6_v6 : Ref sig .tc := ⟨.hbm, 157, rfl⟩
abbrev main_call6_v7 : Ref sig .tc := ⟨.hbm, 158, rfl⟩
abbrev main_call6_v8 : Ref sig .tc := ⟨.hbm, 159, rfl⟩
abbrev main_call6_v9 : Ref sig .tc := ⟨.hbm, 160, rfl⟩
abbrev main_call6_v10 : Ref sig .tc := ⟨.hbm, 161, rfl⟩
abbrev main_call6_v11 : Ref sig .tc := ⟨.hbm, 162, rfl⟩
abbrev main_call6_c_3 : Ref sig .tc := ⟨.hbm, 163, rfl⟩
abbrev main_call6_v12 : Ref sig .tc := ⟨.hbm, 164, rfl⟩
abbrev main_call6_v13 : Ref sig .tc := ⟨.hbm, 165, rfl⟩
abbrev main_call6_c_4 : Ref sig .tc := ⟨.hbm, 166, rfl⟩
abbrev main_call6_v14 : Ref sig .tc := ⟨.hbm, 167, rfl⟩
abbrev main_v11 : Ref sig .tc := ⟨.hbm, 168, rfl⟩
abbrev main_call7_c : Ref sig .tc := ⟨.hbm, 169, rfl⟩
abbrev main_call7_v0 : Ref sig .tc := ⟨.hbm, 170, rfl⟩
abbrev main_call7_v1 : Ref sig .tc := ⟨.hbm, 171, rfl⟩
abbrev main_call7_c_0 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_call7_v5 : Ref sig .tc := ⟨.hbm, 176, rfl⟩
abbrev main_call7_c_1 : Ref sig .tc := ⟨.hbm, 177, rfl⟩
abbrev main_call7_c_2 : Ref sig .tc := ⟨.hbm, 178, rfl⟩
abbrev main_call7_v6 : Ref sig .tc := ⟨.hbm, 179, rfl⟩
abbrev main_call7_v7 : Ref sig .tc := ⟨.hbm, 180, rfl⟩
abbrev main_call7_v8 : Ref sig .tc := ⟨.hbm, 181, rfl⟩
abbrev main_call7_v9 : Ref sig .tc := ⟨.hbm, 182, rfl⟩
abbrev main_call7_v10 : Ref sig .tc := ⟨.hbm, 183, rfl⟩
abbrev main_call7_v11 : Ref sig .tc := ⟨.hbm, 184, rfl⟩
abbrev main_call7_c_3 : Ref sig .tc := ⟨.hbm, 185, rfl⟩
abbrev main_call7_v12 : Ref sig .tc := ⟨.hbm, 186, rfl⟩
abbrev main_call7_v13 : Ref sig .tc := ⟨.hbm, 187, rfl⟩
abbrev main_call7_c_4 : Ref sig .tc := ⟨.hbm, 188, rfl⟩
abbrev main_call7_v14 : Ref sig .tc := ⟨.hbm, 189, rfl⟩
abbrev main_v12 : Ref sig .tc := ⟨.hbm, 190, rfl⟩
abbrev main_v13 : Ref sig .tc := ⟨.hbm, 191, rfl⟩
abbrev main_v14 : Ref sig .tc := ⟨.hbm, 192, rfl⟩
abbrev main_v15 : Ref sig .tc := ⟨.hbm, 193, rfl⟩
abbrev main_v16 : Ref sig .tc := ⟨.hbm, 194, rfl⟩
abbrev main_v17 : Ref sig .tc := ⟨.hbm, 195, rfl⟩
abbrev main_v18 : Ref sig .tc := ⟨.hbm, 196, rfl⟩
abbrev main_v19 : Ref sig .tc := ⟨.hbm, 197, rfl⟩

abbrev nD : Nat := 1
abbrev τ : Topo := Topo.v7x

variable {F : FTy → Type} [FloatOps F]
-- ==== Proof.Perm.lean ====
/-
  The copies' order: which row of the result each copy of the SparseCore fills and which row of the scratch it reads.
-/
module

public import proofs.«01_k».proof.Defs
public import proofs.«01_k».proof.Proof.Gen.KernelIdeal
public import Idealize.ShloMosaic.Lib.Tactic

@[expose] public section

noncomputable section

namespace Cert.Proof.Perm

open Cert.KernelIdeal

/-- The row of the result that copy `j` of SparseCore `c` fills and the row it reads. -/
def dstOf (c : Fin 2) (j : Fin 128) : Fin 256 :=
  Fin.ofNat 256 (lit0 ⟨64 * (j.val % 4) + (32 * c.val + j.val / 4), by omega⟩).toNat
def srcOf (c : Fin 2) (j : Fin 128) : Fin 64 := ⟨32 * c.val + j.val / 4, by omega⟩

/-- The source row of each row of the result, in order. -/
def srcTab : List (Fin 64) :=
  [
    42, 45, 52, 14, 38, 17, 1, 47, 19, 50, 5, 9, 39, 20, 15, 31, 44, 3, 0, 49, 51, 61, 28, 33, 58, 32, 11, 27, 40, 54, 46, 2,
    36, 35, 62, 63, 21, 59, 30, 43, 22, 18, 24, 26, 53, 12, 16, 6, 7, 57, 55, 48, 13, 37, 60, 10, 29, 34, 25, 56, 4, 41, 23, 8,
    39, 50, 54, 44, 3, 51, 52, 17, 27, 1, 14, 38, 42, 33, 9, 58, 46, 32, 40, 49, 47, 19, 2, 31, 15, 11, 20, 5, 61, 0, 45, 28,
    36, 35, 62, 63, 21, 59, 30, 43, 22, 18, 24, 26, 53, 12, 16, 6, 7, 57, 55, 48, 13, 37, 60, 10, 29, 34, 25, 56, 4, 41, 23, 8,
    45, 1, 5, 3, 61, 49, 32, 38, 42, 2, 39, 52, 47, 44, 0, 19, 54, 50, 46, 9, 14, 31, 51, 58, 15, 17, 11, 33, 27, 28, 40, 20,
    36, 35, 62, 63, 21, 59, 30, 43, 22, 18, 24, 26, 53, 12, 16, 6, 7, 57, 55, 48, 13, 37, 60, 10, 29, 34, 25, 56, 4, 41, 23, 8,
    58, 45, 15, 33, 3, 38, 19, 31, 27, 28, 49, 32, 42, 54, 50, 11, 51, 52, 40, 5, 1, 9, 44, 61, 14, 0, 2, 17, 47, 20, 39, 46,
    36, 35, 62, 63, 21, 59, 30, 43, 22, 18, 24, 26, 53, 12, 16, 6, 7, 57, 55, 48, 13, 37, 60, 10, 29, 34, 25, 56, 4, 41, 23, 8]

/-- The source row of result row `r`. -/
def srcAt (r : Fin 256) : Fin 64 := srcTab.getD r.val 0
/-- The copy that fills result row `r`. -/
def posOf (r : Fin 256) : Fin 2 × Fin 128 :=
  (⟨(srcAt r).val / 32, by omega⟩, ⟨4 * ((srcAt r).val % 32) + r.val / 64, by omega⟩)

theorem dstOf_posOf : ∀ r : Fin 256, dstOf (posOf r).1 (posOf r).2 = r := by decide +kernel
theorem dstOf_bij : Function.Bijective fun p : Fin 2 × Fin 128 => dstOf p.1 p.2 :=
  (Fintype.bijective_iff_surjective_and_card _).mpr ⟨fun r => ⟨posOf r, dstOf_posOf r⟩, rfl⟩
theorem srcAt_dstOf (c : Fin 2) (j : Fin 128) : srcAt (dstOf c j) = srcOf c j := by
  have h : posOf (dstOf c j) = (c, j) := dstOf_bij.1 (dstOf_posOf _)
  have h1 := congrArg (fun p : Fin 2 × Fin 128 => p.1.val) h
  have h2 := congrArg (fun p : Fin 2 × Fin 128 => p.2.val) h
  simp only [posOf] at h1 h2
  apply Fin.ext; simp only [srcOf]
  generalize dstOf c j = r at *
  omega

end Cert.Proof.Perm
-- ==== Proof.Rows.lean ====
/-
  The SparseCore's body in a short form: one row copied to another, the copies one after another, then the waits.
-/
module

public import proofs.«01_k».proof.Proof.Perm
public import Idealize.ShloMosaic.Lib.Tactic

@[expose] public section

noncomputable section

namespace Cert.Proof.Rows

open Cert.KernelIdeal Cert.KernelIdeal.Gen
open Idealize.ShloMosaic
open Cert.Proof.Perm
open Idealize.SL.Sem

variable {F : FTy → Type} [FloatOps F]

theorem dst_inb (r : Fin 256) : ∀ a, (![r.val, 0] : Fin 2 → Nat) a + S1x128.size a ≤ S256x128.size a := by
  have := r.isLt; intro a; fin_cases a <;> simp <;> omega
theorem src_inb (v : Fin 64) : ∀ a, (![v.val, 0] : Fin 2 → Nat) a + S1x128.size a ≤ S64x128.size a := by
  have := v.isLt; intro a; fin_cases a <;> simp <;> omega

/-- A row of the result, and a row of the scratch, as the copies name them. -/
abbrev dstRow (a : Memref sig .scScalar .hbm S256x128 .i32) (r : Fin 256) : Memref sig .scScalar .hbm S128 .i32 :=
  (a.slice (Rect.unit (s := S256x128) ![r.val, 0] S1x128.size (dst_inb r)) (fun _ => rfl)).squeeze S128 squeezes_S1x128_S128
abbrev srcRow (a : Memref sig .scScalar .shared S64x128 .i32) (v : Fin 64) : Memref sig .scScalar .shared S128 .i32 :=
  (a.slice (Rect.unit (s := S64x128) ![v.val, 0] S1x128.size (src_inb v)) (fun _ => rfl)).squeeze S128 squeezes_S1x128_S128

section Prog
variable {cc : Fin τ.nSC} (a2 : Memref sig .scScalar .hbm S256x128 .i32) (a3 : Memref sig .scScalar .shared S64x128 .i32) (a4 : DmaSems sig S_)

/-- The last `n` copies issued, then `k`; the last `n` waits; and the whole: the labels brought in, all copies, all waits. -/
def issues (c : Fin 2) (k : Prog (TpuEff nD τ sig (Elt F) Λ₀ (.scScalar cc)) PUnit) :
    (n : ℕ) → n ≤ 128 → Prog (TpuEff nD τ sig (Elt F) Λ₀ (.scScalar cc)) PUnit
  | 0, _ => k
  | n + 1, h => (Prog.lift (.enqueueDma (srcRow a3 (srcOf c ⟨127 - n, by omega⟩)) (.here (dstRow a2 (dstOf c ⟨127 - n, by omega⟩))) (.dma a4.sem)
      ((View.wordExact_bits rfl).reshape _ _) ((View.wordExact_bits rfl).reshape _ _) ⟨Or.inl rfl, trivial⟩)) >>= fun _ => issues c k n (by omega)

def waits (c : Fin 2) :
    (n : ℕ) → n ≤ 128 → Prog (TpuEff nD τ sig (Elt F) Λ₀ (.scScalar cc)) PUnit
  | 0, _ => pure ⟨⟩
  | n + 1, h => (Prog.lift (.waitDma2 a4.sem (srcRow a3 (srcOf c ⟨127 - n, by omega⟩)) (dstRow a2 (dstOf c ⟨127 - n, by omega⟩))
      ((View.wordExact_bits rfl).reshape _ _) ((View.wordExact_bits rfl).reshape _ _))) >>= fun _ => waits c n (by omega)

def moved (c : Fin 2) (a1 : Memref sig .scScalar .hbm S64x128 .i32) (h1 : a1.IsWhole) (h3 : a3.IsWhole) (s : DmaSems sig S_) :
    Prog (TpuEff nD τ sig (Elt F) Λ₀ (.scScalar cc)) PUnit := do
  Prog.lift (.enqueueDma a1 (.here a3) (.dma s.sem) h1.wordExact h3.wordExact ⟨Or.inl rfl, trivial⟩)
  Prog.lift (.waitDma2 s.sem a1 a3 h1.wordExact h3.wordExact)
  issues a2 a3 a4 c (waits a2 a3 a4 c 128 le_rfl) 128 le_rfl
end Prog

/-- On SparseCore 0 the body is the first half of the copies, -/
theorem body_eq_zero (i : grid1.Coords) (a1 : Memref sig .scScalar .hbm S64x128 .i32) (h1 : a1.IsWhole)
    (a2 : Memref sig .scScalar .hbm S256x128 .i32) (h2 : a2.IsWhole) (a3 : Memref sig .scScalar .shared S64x128 .i32) (h3 : a3.IsWhole)
    (a4 r0 r1 : DmaSems sig S_) (hi : (i 0).val = 0) :
    cc1__sc_tgt_body (F := F) i a1 h1 a2 h2 a3 h3 a4 r0 r1 = moved a2 a3 a4 0 a1 h1 h3 r0 := by
  unfold cc1__sc_tgt_body
  have e1 : Scalar.cmpi .ne (Scalar.extui (Scalar.cmpi .eq (BitVec.ofNat 32 (i 0).val) 0#32) : BitVec 32) 0#32 = 1#1 := by
    rw [hi]; decide
  have e2 : ¬ Scalar.cmpi .ne (Scalar.extui (Scalar.cmpi .eq (BitVec.ofNat 32 (i 0).val) 1#32) : BitVec 32) 0#32 = 1#1 := by
    rw [hi]; decide
  simp only [dif_pos e1, dif_neg e2]
  exact (rfl : (k1_part39 (F := F) i a1 h1 a2 h2 a3 h3 a4 r0 r1 >>= fun _ => _) = _)

/-- and on SparseCore 1 the second half. -/
theorem body_eq_one (i : grid1.Coords) (a1 : Memref sig .scScalar .hbm S64x128 .i32) (h1 : a1.IsWhole)
    (a2 : Memref sig .scScalar .hbm S256x128 .i32) (h2 : a2.IsWhole) (a3 : Memref sig .scScalar .shared S64x128 .i32) (h3 : a3.IsWhole)
    (a4 r0 r1 : DmaSems sig S_) (hi : (i 0).val = 1) :
    cc1__sc_tgt_body (F := F) i a1 h1 a2 h2 a3 h3 a4 r0 r1 = moved a2 a3 a4 1 a1 h1 h3 r1 := by
  unfold cc1__sc_tgt_body
  have e1 : ¬ Scalar.cmpi .ne (Scalar.extui (Scalar.cmpi .eq (BitVec.ofNat 32 (i 0).val) 0#32) : BitVec 32) 0#32 = 1#1 := by
    rw [hi]; decide
  have e2 : Scalar.cmpi .ne (Scalar.extui (Scalar.cmpi .eq (BitVec.ofNat 32 (i 0).val) 1#32) : BitVec 32) 0#32 = 1#1 := by
    rw [hi]; decide
  simp only [dif_neg e1, dif_pos e2]
  exact (rfl : (k1_part78 (F := F) i a1 h1 a2 h2 a3 h3 a4 r0 r1 >>= fun _ => _) = _)

end Cert.Proof.Rows
-- ==== Proof.Base.lean ====
/-
  What the launch theorem is told of the program: its body table and configuration, the resource algebra the proof works
  in, the two SparseCores' payloads.
-/
module

public import proofs.«01_k».proof.Proof.Rows
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Ring

@[expose] public section

noncomputable section

namespace Cert.Proof.Base

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds and the copies' counters -/

abbrev UH : Type := URounds (GSem nD τ sig) ℕ
abbrev UP : Type := URounds (GSem nD τ sig) Unit
abbrev UU : Type := UH × (UP × Counters)
abbrev MM (F : FTy → Type) : Type := MT nD τ sig (HIx 1) (Elt F) ℕ UU ℕ

abbrev EH : Emb UH (MM F) := embL
/-- The pipeline's rounds library, the middle factor. -/
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP (F := F)).LandsIn (upEmb : UEmb _ (MM F)) := by unfold EP; infer_instance
/-- The copies' counters, the last. -/
abbrev EC : UEmb Counters (MM F) := countersEmb

/-! ## The launch memory and the arrays -/

variable (m : (ℓ : Loc nD τ sig) → Buf (Elt F) ℓ)

abbrev loc0 (d : Dev nD) : Loc nD τ sig := (SparseCore.T d).loc main_arg0
abbrev loc1 (d : Dev nD) : Loc nD τ sig := (SparseCore.T d).loc main_arg1
abbrev locO (d : Dev nD) : Loc nD τ sig := (SparseCore.T d).loc main_v0
abbrev locX (d : Dev nD) : Loc nD τ sig := (SparseCore.T d).loc main_v2
abbrev locY (d : Dev nD) : Loc nD τ sig := (SparseCore.T d).loc main_v3

/-- The labels, each repeated along a row of 128, as the two broadcasts of @main leave them. -/
def xval (d : Dev nD) : Buf (Elt F) (locX d) :=
  broadcastInDim S64x128 ![0,1] bcast_S64x1_S64x128_0_1 (broadcastInDim S64x1 ![0] bcast_S64_S64x1_0 (m (loc1 d)))

end Cert.Proof.Base
-- ==== Proof.Move.lean ====
/-
  What one SparseCore does: the labels' array copied whole into its shared scratch, then 128 rows of the scratch copied
  to 128 rows of the result, all started on one semaphore and then waited for, one wait for each.
-/
module

public import proofs.«01_k».proof.Proof.Base

@[expose] public section

noncomputable section

namespace Cert.Proof.Move

open Cert.KernelIdeal Cert.KernelIdeal.Gen Cert.Proof.Base Cert.Proof.Perm Cert.Proof.Rows
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MM F
local notation "xW" => (Memref.whole Cert.KernelIdeal.main_v2_scs : Memref Cert.KernelIdeal.sig Kind.scScalar Space.hbm Cert.KernelIdeal.S64x128 EltTy.i32)
local notation "yW" => (Memref.whole Cert.KernelIdeal.main_v3_scs : Memref Cert.KernelIdeal.sig Kind.scScalar Space.hbm Cert.KernelIdeal.S256x128 EltTy.i32)
local notation "shW" => (Memref.whole Cert.KernelIdeal.cc1_scratch0 : Memref Cert.KernelIdeal.sig Kind.scScalar Space.shared Cert.KernelIdeal.S64x128 EltTy.i32)

/-! ## The rows -/

/-- The elements of row `r` of the result, and of row `v` of the scratch. -/
abbrev dstSet (r : Fin 256) : Finset S256x128.Idx := (Rect.unit (s := S256x128) ![r.val, 0] S1x128.size (dst_inb r)).set
abbrev srcSet (v : Fin 64) : Finset S64x128.Idx := (Rect.unit (s := S64x128) ![v.val, 0] S1x128.size (src_inb v)).set

theorem dstRow_set (r : Fin 256) : (dstRow yW r).view.set = dstSet r := by
  simp only [Memref.view_squeeze, View.set_reshape]; exact View.set_slice_whole _ _
theorem srcRow_set (v : Fin 64) : (srcRow shW v).view.set = srcSet v := by
  simp only [Memref.view_squeeze, View.set_reshape]; exact View.set_slice_whole _ _

theorem dstSet_disjoint (r r' : Fin 256) (h : r ≠ r') : Disjoint (dstSet r) (dstSet r') :=
  Ring.lead_disjoint (s := S256x128) (0 : Fin 2) 1 (fun r : Fin 256 => (![r.val, 0] : Fin 2 → Nat)) S1x128.size dst_inb (fun r => by simp) rfl r r' h
theorem dstSet_cover : Finset.univ.biUnion dstSet = Finset.univ :=
  Ring.lead_cover (s := S256x128) (0 : Fin 2) 1 (fun r : Fin 256 => (![r.val, 0] : Fin 2 → Nat)) S1x128.size dst_inb (fun r => by simp)
    (fun j a ha => by fin_cases a <;> first | exact absurd rfl ha | rfl) rfl (fun a ha => by fin_cases a <;> first | exact absurd rfl ha | rfl) rfl

/-- The result's array when row `r` holds row `srcAt r` of `x`. -/
def yOf (x : S64x128.Idx → Elt F .i32) : S256x128.Idx → Elt F .i32 :=
  fun i => x (fun | (0 : Fin 2) => srcAt (i 0) | (1 : Fin 2) => i 1)

/-- Row `r` of the result written with what row `srcAt r` of the scratch reads is, on that row, `yOf`. -/
theorem write_row (r : Fin 256) (x : S64x128.Idx → Elt F .i32) (f : S256x128.Idx → Elt F .i32) :
    ∀ i ∈ dstSet r, (dstRow yW r).view.write (Elt F) f ((srcRow shW (srcAt r)).view.read (Elt F) x) Finset.univ i = yOf x i := by
  intro i hi
  rw [← dstRow_set] at hi
  obtain ⟨k, -, rfl⟩ := Finset.mem_map.mp hi
  rw [View.write_emb_of_mem (h := Finset.mem_univ k), View.read_apply]
  obtain ⟨q, hd, hs⟩ : ∃ q : S1x128.Idx,
      (dstRow yW r).view.emb k = (Rect.unit (s := S256x128) ![r.val, 0] S1x128.size (dst_inb r)).emb q ∧
      (srcRow shW (srcAt r)).view.emb k = (Rect.unit (s := S64x128) ![(srcAt r).val, 0] S1x128.size (src_inb (srcAt r))).emb q :=
    ⟨_, rfl, rfl⟩
  rw [hd, hs]
  have h0 : (Rect.unit (s := S256x128) ![r.val, 0] S1x128.size (dst_inb r)).emb q 0 = r :=
    Fin.ext (by rw [Rect.emb_apply]; have := (q 0).isLt; simp at this ⊢; exact this)
  simp only [cast_eq, yOf]
  refine congrArg x (funext fun a => Fin.ext ?_)
  fin_cases a
  · change _ = (srcAt ((Rect.unit (s := S256x128) ![r.val, 0] S1x128.size (dst_inb r)).emb q 0)).val
    have := (q 0).isLt; rw [h0, Rect.emb_apply]; simp at this ⊢; exact this
  · change _ = ((Rect.unit (s := S256x128) ![r.val, 0] S1x128.size (dst_inb r)).emb q 1).val
    rw [Rect.emb_apply, Rect.emb_apply]; simp

/-- Copying the labels' array whole over the scratch leaves the scratch equal to it. -/
theorem write_whole (x f : S64x128.Idx → Elt F .i32) :
    (shW).view.write (Elt F) f ((xW).view.read (Elt F) x) Finset.univ = x := by
  rw [show (shW).view.write (Elt F) f ((xW).view.read (Elt F) x) Finset.univ = (xW).view.read (Elt F) x from View.write_whole_univ ..]
  exact View.read_whole ..

/-! ## The copies -/

variable (d : Dev nD) (cc : Fin τ.nSC)

abbrev shLoc : Loc nD τ sig := (S d cc).loc cc1_scratch0

/-- What one row's copy takes as its credit. -/
abbrev rowN : ℕ := (dstRow yW 0).view.dmaCredit
theorem row_credit (r : Fin 256) : (dstRow yW r).view.dmaCredit = rowN := rfl
theorem rowN_pos : 0 < rowN := View.dmaCredit_pos _ (by decide)

/-- What copy `j` takes of the scratch: its source row, on a share of its own. -/
abbrev srcPt (x : S64x128.Idx → Elt F .i32) (c : Fin 2) (j : Fin 128) : sProp 𝕄 :=
  shLoc d cc ↦[srcSet (srcOf c j)]{shareTok fullShare 128 j} x
/-- Its destination row, at `f`. -/
abbrev dstPt (c : Fin 2) (f : S256x128.Idx → Elt F .i32) (j : Fin 128) : sProp 𝕄 :=
  locY d ↦[dstSet (dstOf c j)]{fullShare} f
/-- What copy `j` gives back. -/
def deliv (x : S64x128.Idx → Elt F .i32) (c : Fin 2) (j : Fin 128) : sProp 𝕄 :=
  iprop(dstPt d c (yOf x) j ∗ srcPt d cc x c j)
instance (x : S64x128.Idx → Elt F .i32) (c : Fin 2) (j : Fin 128) : Storable upEmb (deliv d cc x c j) := by
  unfold deliv; infer_instance

/-- What copy `j` leaves when it lands is what it is to give back. -/
theorem deliver (c : Fin 2) (j : Fin 128) (x : S64x128.Idx → Elt F .i32) (f : S256x128.Idx → Elt F .i32) :
    iprop(((dstRow yW (dstOf c j)).view.loc (S d cc) ↦[dstSet (dstOf c j)]{fullShare}
          (dstRow yW (dstOf c j)).view.write (Elt F) f (ReadAs.same.apply ((srcRow shW (srcOf c j)).view.read (Elt F) x)) Finset.univ)
        ∗ ((srcRow shW (srcOf c j)).view.loc (S d cc) ↦[(srcRow shW (srcOf c j)).view.set]{shareTok fullShare 128 j} x))
      ⊢ deliv d cc x c j := by
  unfold deliv
  have hw : ∀ i ∈ dstSet (dstOf c j), (dstRow yW (dstOf c j)).view.write (Elt F) f (ReadAs.same.apply ((srcRow shW (srcOf c j)).view.read (Elt F) x)) Finset.univ i
      = yOf x i := by
    have := write_row (F := F) (dstOf c j) x f
    rw [srcAt_dstOf] at this; exact this
  iintro ⟨Hd, Hs⟩
  isplitl [Hd]; · iapply (Entails.of_eq (pointsTo_congr hw)) $$ Hd
  iapply (Entails.of_eq (by rw [srcRow_set])) $$ Hs

/-- All the copies started, in order. -/
theorem issues_run (c : Fin 2) (x : S64x128.Idx → Elt F .i32) (f : S256x128.Idx → Elt F .i32) (s4 : DmaSems sig S_)
    (k : Prog (TpuEff nD τ sig (Elt F) Λ₀ (.scScalar cc)) PUnit) (Q : PUnit → sProp 𝕄) :
    ∀ (n : ℕ) (h : n ≤ 128),
    iprop(bigSep (pending (128 - n)) (srcPt d cc x c) ∗ bigSep (pending (128 - n)) (dstPt d c f)
        ∗ Batch EC (S d cc) (.dma s4.sem) (none : HIx 1) rowN (deliv d cc x c) (128 - n) 0)
      ⊢ iprop((Batch EC (S d cc) (.dma s4.sem) (none : HIx 1) rowN (deliv d cc x c) 128 0
            -∗ wp frame (wpE (defs₀ (F := F)) 𝒱₀ (S d cc) none) Set.univ k Q)
          -∗ wp frame (wpE (defs₀ (F := F)) 𝒱₀ (S d cc) none) Set.univ (issues yW shW s4 c k n h) Q) := by
  intro n
  induction n with
  | zero =>
    intro h
    iintro ⟨-, -, HB⟩ Hk
    iapply Hk; iexact HB
  | succ n ih =>
    intro h
    have e : 128 - (n + 1) = 127 - n := by omega
    have e' : 127 - n + 1 = 128 - n := by omega
    have hk : 127 - n < 128 := by omega
    rw [e, bigSep_pending_step _ (127 - n) hk, bigSep_pending_step _ (127 - n) hk, e']
    rw [show issues (F := F) yW shW s4 c k (n + 1) h
      = .op (.enqueueDmaAs (srcRow shW (srcOf c ⟨127 - n, hk⟩)) (.here (dstRow yW (dstOf c ⟨127 - n, hk⟩))) ReadAs.same (.dma s4.sem)
          ((View.wordExact_bits rfl).reshape _ _) ((View.wordExact_bits rfl).reshape _ _) ⟨Or.inl rfl, trivial⟩) fun _ => issues yW shW s4 c k n (by omega) from rfl]
    iintro ⟨⟨Hs, Hss⟩, ⟨Hd, Hds⟩, HB⟩ Hk
    iapply (wp_dmaBatch EC 𝒱₀ (S d cc) none (src := srcRow shW (srcOf c ⟨127 - n, hk⟩)) (dst := dstRow yW (dstOf c ⟨127 - n, hk⟩)) (none : HIx 1) rowN (j := 127 - n) (u := 0) (fs := x) (fd := f) (q := shareTok fullShare 128 ⟨127 - n, hk⟩)
      (Sd := dstSet (dstOf c ⟨127 - n, hk⟩)) (D := deliv d cc x c) (sm := .dma s4.sem) (row_credit _) (dstRow_set _).subset hk (Nat.zero_le _)
      (deliver d cc c ⟨127 - n, hk⟩ x f)) $$ [Hs Hd HB]
    · isplitl [Hs]; · iapply (Entails.of_eq (by rw [srcRow_set])) $$ Hs
      isplitl [Hd]; · iexact Hd
      iexact HB
    iintro HB
    iapply (ih _) $$ [Hss Hds HB]
    · isplitl [Hss]; · iexact Hss
      isplitl [Hds]; · iexact Hds
      rw [← e']; iexact HB
    iexact Hk

/-- All the waits, the last of which gives everything back. -/
theorem waits_run (c : Fin 2) (s4 : DmaSems sig S_) (Dv : Fin 128 → sProp 𝕄) (O : CellTallies nD τ sig (HIx 1)) (Q : PUnit → sProp 𝕄) :
    ∀ (n : ℕ) (h : n + 1 ≤ 128) (W : Waits sig (HIx 1)),
    iprop(MayWaits (S d cc) (none : HIx 1) O ∗ Batch EC (S d cc) (.dma s4.sem) (none : HIx 1) rowN Dv 128 ((127 - n) * rowN)
        ∗ owes (S d cc) O W)
      ⊢ iprop((∀ W', ⌜∀ p ∈ W', p ∈ W ∨ p.2 = none⌝ -∗ bigSep Finset.univ Dv -∗ semVal (S d cc, .dma s4.sem) 0 -∗ owes (S d cc) O W' -∗ Q ⟨⟩)
          -∗ wp frame (wpE (defs₀ (F := F)) 𝒱₀ (S d cc) none) Set.univ (waits yW shW s4 c (n + 1) h) Q) := by
  intro n
  induction n with
  | zero =>
    intro h W
    rw [show waits (F := F) yW shW s4 c (0 + 1) h
      = .op (.waitDma2 s4.sem (srcRow shW (srcOf c ⟨127 - 0, by omega⟩)) (dstRow yW (dstOf c ⟨127 - 0, by omega⟩))
          ((View.wordExact_bits rfl).reshape _ _) ((View.wordExact_bits rfl).reshape _ _)) fun _ => pure ⟨⟩ from rfl]
    iintro ⟨#Hmw, HB, HO⟩ Hk
    iapply (wp_waitBatchLastO EC 𝒱₀ (S d cc) none (none : HIx 1) (N := rowN) (D := Dv) (u := (127 - 0) * rowN) (row_credit _) rowN_pos
      (by rw [Nat.mul_comm rowN]; omega)) $$ [HB HO]
    · isplitl [HB]; · iexact HB
      isplitl [HO]; · iexact HO
      iapply (MayWaits.elim (SemLoc.dma s4.sem)) $$ Hmw
    iintro ⟨HD, Hs, HO⟩
    rw [wp_pure]; imodintro
    iapply Hk $$ %(insert (SemLoc.dma s4.sem, none) W) [] HD Hs HO
    ipureintro; intro p hp
    rcases Finset.mem_insert.mp hp with hp | hp; · exact .inr (hp ▸ rfl)
    exact .inl hp
  | succ n ih =>
    intro h W
    have e' : (127 - (n + 1)) * rowN + rowN = (127 - n) * rowN := by
      rw [← Nat.succ_mul]; congr 1; omega
    rw [show waits (F := F) yW shW s4 c (n + 1 + 1) h
      = .op (.waitDma2 s4.sem (srcRow shW (srcOf c ⟨127 - (n + 1), by omega⟩)) (dstRow yW (dstOf c ⟨127 - (n + 1), by omega⟩))
          ((View.wordExact_bits rfl).reshape _ _) ((View.wordExact_bits rfl).reshape _ _)) fun _ => waits yW shW s4 c (n + 1) (by omega) from rfl]
    iintro ⟨#Hmw, HB, HO⟩ Hk
    iapply (wp_waitBatchO EC 𝒱₀ (S d cc) none (none : HIx 1) (N := rowN) (D := Dv) (u := (127 - (n + 1)) * rowN) (row_credit _)
      (by rw [e', Nat.mul_comm rowN]; exact Nat.mul_lt_mul_of_pos_right (by omega) rowN_pos)) $$ [HB HO]
    · isplitl [HB]; · iexact HB
      isplitl [HO]; · iexact HO
      iapply (MayWaits.elim (SemLoc.dma s4.sem)) $$ Hmw
    iintro ⟨HB, HO⟩
    iapply (ih _ (insert (SemLoc.dma s4.sem, none) W)) $$ [HB HO]
    · isplitr; · iexact Hmw
      isplitl [HB]; · rw [← e']; iexact HB
      iexact HO
    iintro %W' %hW' HD Hs HO
    iapply Hk $$ %W' [] HD Hs HO
    ipureintro; intro p hp
    rcases hW' p hp with hp | hp
    · rcases Finset.mem_insert.mp hp with hp | hp; · exact .inr (hp ▸ rfl)
      exact .inl hp
    · exact .inr hp

/-- What is left of the scratch beside the source rows. -/
abbrev restSh (c : Fin 2) (x : S64x128.Idx → Elt F .i32) : sProp 𝕄 :=
  iprop((shLoc d cc ↦{shareDrop fullShare 128} x) ∗ bigSep Finset.univ fun j : Fin 128 => shLoc d cc ↦[Finset.univ \ srcSet (srcOf c j)]{shareTok fullShare 128 j} x)

/-- The scratch dealt: each copy its source row on a share of its own, and the rest kept; -/
theorem srcs_split (c : Fin 2) (x : S64x128.Idx → Elt F .i32) :
    (shLoc d cc ↦{fullShare} x : sProp 𝕄) ⊢ iprop(bigSep Finset.univ (srcPt d cc x c) ∗ restSh d cc c x) := by
  iintro H
  ihave H := (pointsTo_toks_split fullShare 128) $$ H
  icases H with ⟨Hr, Ht⟩
  ihave Ht := (show bigSep Finset.univ (fun j : Fin 128 => (shLoc d cc ↦{shareTok fullShare 128 j} x : sProp 𝕄))
      ⊢ bigSep Finset.univ (fun j : Fin 128 => iprop(srcPt d cc x c j ∗ shLoc d cc ↦[Finset.univ \ srcSet (srcOf c j)]{shareTok fullShare 128 j} x))
    from bigSep_mono fun j _ => (pointsTo_split_subset (Finset.subset_univ (srcSet (srcOf c j)))).1) $$ Ht
  ihave Ht := (Entails.of_eq (bigSep_sep' ..)) $$ Ht
  icases Ht with ⟨H1, H2⟩
  isplitl [H1]; · iexact H1
  isplitl [Hr] <;> iassumption

/-- and put back together. -/
theorem srcs_join (c : Fin 2) (x : S64x128.Idx → Elt F .i32) :
    iprop(bigSep Finset.univ (srcPt d cc x c) ∗ restSh d cc c x) ⊢ (shLoc d cc ↦{fullShare} x : sProp 𝕄) := by
  iintro ⟨H1, Hr, H2⟩
  iapply (pointsTo_toks_join fullShare 128)
  isplitl [Hr]; · iexact Hr
  iapply (show iprop(bigSep Finset.univ (srcPt d cc x c) ∗ bigSep Finset.univ fun j : Fin 128 => shLoc d cc ↦[Finset.univ \ srcSet (srcOf c j)]{shareTok fullShare 128 j} x)
      ⊢ bigSep Finset.univ (fun j : Fin 128 => (shLoc d cc ↦{shareTok fullShare 128 j} x : sProp 𝕄)) from by
    rw [← bigSep_sep']
    exact bigSep_mono fun j _ => (pointsTo_split_subset (Finset.subset_univ (srcSet (srcOf c j)))).2)
  isplitl [H1]; · iexact H1
  iexact H2

/-- The whole of one SparseCore's body. -/
theorem moved_run (c : Fin 2) (s s4 : DmaSems sig S_) (x : S64x128.Idx → Elt F .i32) (f : S256x128.Idx → Elt F .i32)
    (fs : S64x128.Idx → Elt F .i32) (q : PosShare TreeShare) (O : CellTallies nD τ sig (HIx 1)) (W : Waits sig (HIx 1)) :
    iprop(MayWaits (S d cc) (none : HIx 1) O ∗ (locX d ↦{q} x) ∗ bigSep Finset.univ (dstPt d c f) ∗ (shLoc d cc ↦{fullShare} fs)
        ∗ semVal (S d cc, .dma s4.sem) 0 ∗ semVal (S d cc, .dma s.sem) 0 ∗ owes (S d cc) O W)
      ⊢ wp frame (wpE (defs₀ (F := F)) 𝒱₀ (S d cc) none) Set.univ (moved yW shW s4 c xW (Memref.isWhole_whole _) (Memref.isWhole_whole _) s)
          fun _ => iprop((locX d ↦{q} x) ∗ bigSep Finset.univ (dstPt d c (yOf x)) ∗ (∃ f, shLoc d cc ↦{fullShare} f)
            ∗ semVal (S d cc, .dma s4.sem) 0 ∗ semVal (S d cc, .dma s.sem) 0
            ∗ ∃ W', ⌜∀ p ∈ W', p ∈ W ∨ p.2 = none⌝ ∗ owes (S d cc) O W') := by
  rw [show moved (F := F) yW shW s4 c xW (Memref.isWhole_whole _) (Memref.isWhole_whole _) s
    = .op (.enqueueDmaAs xW (.here shW) ReadAs.same (.dma s.sem) (Memref.isWhole_whole main_v2_scs).wordExact (Memref.isWhole_whole cc1_scratch0).wordExact ⟨Or.inl rfl, trivial⟩)
        fun _ => .op (.waitDma2 s.sem xW shW (Memref.isWhole_whole main_v2_scs).wordExact (Memref.isWhole_whole cc1_scratch0).wordExact)
          fun _ => issues yW shW s4 c (waits yW shW s4 c 128 le_rfl) 128 le_rfl from rfl]
  have hx : (xW).view.set = Finset.univ := View.set_whole _
  have hs : (shW).view.set = Finset.univ := View.set_whole _
  iintro ⟨#Hmw, Hx, Hd, Hsh, H4, Hs, HO⟩
  iapply (wp_dmaLocal EC 𝒱₀ (S d cc) none (src := xW) (dst := shW) (none : HIx 1) ((shW).view.dmaCredit) (sm := .dma s.sem)
    (fs := x) (fd := fs) (q := q) (Sd := Finset.univ) rfl (View.dmaCredit_pos _ (by decide)) (Finset.subset_univ _)) $$ [Hx Hsh Hs]
  · isplitl [Hx]; · iapply (Entails.of_eq (by rw [hx])) $$ Hx
    isplitl [Hsh]; · iexact Hsh
    iexact Hs
  iintro Hfl
  iapply (wp_waitLocalO EC 𝒱₀ (S d cc) none (none : HIx 1) (rfl : (shW).view.dmaCredit = _)) $$ [Hfl HO]
  · isplitl [Hfl]; · iexact Hfl
    isplitl [HO]; · iexact HO
    iapply (MayWaits.elim (SemLoc.dma s.sem)) $$ Hmw
  iintro ⟨⟨Hsh, Hx⟩, Hs, HO⟩
  ihave Hx := (Entails.of_eq (show ((xW).view.loc (S d cc) ↦[(xW).view.set]{q} x : sProp 𝕄) = locX d ↦{q} x by rw [hx])) $$ Hx
  ihave Hsh := (Entails.of_eq (show ((shW).view.loc (S d cc) ↦{fullShare} (shW).view.write (Elt F) fs (ReadAs.same.apply ((xW).view.read (Elt F) x)) Finset.univ : sProp 𝕄)
    = shLoc d cc ↦{fullShare} x from congrArg (fun g => (shLoc d cc ↦{fullShare} g : sProp 𝕄)) (write_whole x fs))) $$ Hsh
  ihave Hsh := (srcs_split d cc c x) $$ Hsh
  icases Hsh with ⟨Hsrc, Hrest⟩
  imod (batch_alloc' EC (c := S d cc) (sm := .dma s4.sem) (none : HIx 1) rowN (deliv d cc x c)) $$ H4 with HB
  iapply (issues_run d cc c x f s4 _ _ 128 le_rfl) $$ [Hsrc Hd HB]
  · rw [show 128 - 128 = 0 from rfl, ← bigSep_pending_zero, ← bigSep_pending_zero]
    isplitl [Hsrc]; · iexact Hsrc
    isplitl [Hd]; · iexact Hd
    iexact HB
  iintro HB
  iapply (waits_run d cc c s4 (deliv d cc x c) O _ 127 le_rfl _) $$ [HB HO]
  · isplitr; · iexact Hmw
    isplitl [HB]; · rw [show (127 - 127) * rowN = 0 by rw [Nat.sub_self, Nat.zero_mul]]; iexact HB
    iexact HO
  iintro %W' %hW' HD H4 HO
  ihave HD := (show bigSep Finset.univ (deliv d cc x c) ⊢ iprop(bigSep Finset.univ (dstPt d c (yOf x)) ∗ bigSep Finset.univ (srcPt d cc x c))
    from Entails.of_eq (bigSep_sep' Finset.univ (dstPt d c (yOf x)) (srcPt d cc x c))) $$ HD
  icases HD with ⟨Hd, Hsrc⟩
  ihave Hsh := (srcs_join d cc c x) $$ [Hsrc Hrest]; · isplitl [Hsrc] <;> iassumption
  isplitl [Hx]; · iexact Hx
  isplitl [Hd]; · iexact Hd
  isplitl [Hsh]; · iexists x; iexact Hsh
  isplitl [H4]; · iexact H4
  isplitl [Hs]; · iexact Hs
  iexists W'; isplitr; swap; · iexact HO
  ipureintro; intro p hp
  rcases hW' p hp with hp | hp
  · rcases Finset.mem_insert.mp hp with hp | hp; · exact .inr (hp ▸ rfl)
    exact .inl hp
  · exact .inr hp

end Cert.Proof.Move
-- ==== Proof.Seq.lean ====
/-
  What the call hands each SparseCore and gets back, and each sequencer's run in the form the launch theorem asks for:
  half of the labels' array to read and 128 rows of the result to write.
-/
module

public import proofs.«01_k».proof.Proof.Move

@[expose] public section

noncomputable section

namespace Cert.Proof.Seq

open Cert.KernelIdeal Cert.KernelIdeal.Gen Cert.Proof.Base Cert.Proof.Perm Cert.Proof.Rows Cert.Proof.Move
open Idealize.ShloMosaic
open Idealize.ShloMosaic.SparseCore (S V)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F
local notation "xW" => (Memref.whole Cert.KernelIdeal.main_v2_scs : Memref Cert.KernelIdeal.sig Kind.scScalar Space.hbm Cert.KernelIdeal.S64x128 EltTy.i32)
local notation "yW" => (Memref.whole Cert.KernelIdeal.main_v3_scs : Memref Cert.KernelIdeal.sig Kind.scScalar Space.hbm Cert.KernelIdeal.S256x128 EltTy.i32)
local notation "shW" => (Memref.whole Cert.KernelIdeal.cc1_scratch0 : Memref Cert.KernelIdeal.sig Kind.scScalar Space.shared Cert.KernelIdeal.S64x128 EltTy.i32)

variable (m : (ℓ : Loc nD τ sig) → Buf (Elt F) ℓ)

/-! ## The payloads -/

/-- Which of the two SparseCores a number names. -/
def half (n : ℕ) : Fin 2 := ⟨n % 2, Nat.mod_lt _ (by decide)⟩

/-- The share of the labels' array each SparseCore reads through. -/
def shr : Fin 2 → PosShare TreeShare
  | 0 => fullShare.left
  | 1 => fullShare.right

/-- What SparseCore `c` works on: its share of the labels, and its rows of the result at `f`. -/
abbrev part (d : Dev nD) (c : Fin 2) (f : S256x128.Idx → Elt F .i32) : sProp 𝕄 :=
  iprop((locX d ↦{shr c} xval m d) ∗ bigSep Finset.univ (dstPt d c f))

def P : (K (F := F)).Pay (nD := nD) (Val := Elt F) (Name := ℕ) (U := UU) where
  st := fun _ d c => part m d (half c.val) (m (locY d))
  dn := fun _ d c => part m d (half c.val) (yOf (xval m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A sequencer's own storage -/

section Own

variable (d : Dev nD) (cc : Fin τ.nSC)

/-- The three copy semaphores the kernel names: the rows', and the one each SparseCore copies the labels on. -/
abbrev csem (k : Fin 3) : DmaSem sig := ⟨4 + k.val, show 4 + k.val < 7 by omega⟩
abbrev dcell (k : Fin 3) : GSem nD τ sig := (S d cc, .dma (csem k))
abbrev cells0 : sProp 𝕄 :=
  iprop(semVal (S d cc, .dma cc1_scratch1.sem) 0 ∗ semVal (S d cc, .dma cc1_scoped0.sem) 0 ∗ semVal (S d cc, .dma cc1_scoped1.sem) 0)

omit [FloatOps F] in
theorem dcell_mem (k : Fin 3) : dcell d cc k ∈ ownCells (S d cc) :=
  mem_ownCells.mpr ⟨rfl, (show ∀ k : Fin 3, (SemLoc.dma (csem k) : SemLoc sig).isScoped .scScalar = true by decide) _⟩

omit [FloatOps F] in
/-- The sequencer's own cells at zero: the three named, and the others. -/
theorem ownSems0_S :
    (ownSems0 (S d cc) : sProp 𝕄)
      = iprop(cells0 d cc ∗ bigSep ((ownCells (S d cc)) \ Finset.univ.image (dcell d cc)) fun g => semVal g 0) := by
  unfold SparseCore.Cfg.ownSems0
  rw [SparseCore.bigSep_sdiff_split' (t := Finset.univ.image (dcell d cc)) (Finset.image_subset_iff.mpr fun k _ => dcell_mem d cc k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 3)) = {0, 1, 2} by decide,
    SparseCore.bigSep_insert' (by decide), SparseCore.bigSep_insert' (by decide), bigSep_singleton]
  rfl

omit [FloatOps F] in
/-- The shared scratch is among the sequencer's own buffers. -/
theorem ownBufs_S :
    (ownBufs (S d cc) : sProp 𝕄)
      = iprop((∃ f, shLoc d cc ↦{fullShare} f)
          ∗ bigSep ((ownRefs (τ := τ) (.scScalar cc)).erase ((Proc.scScalar cc).devRef cc1_scratch0)) fun b => iprop(∃ f, ((d, b) : Loc nD τ sig) ↦{fullShare} f)) := by
  unfold SparseCore.Cfg.ownBufs
  exact SparseCore.bigSep_erase' ((mem_ownRefs (p := Proc.scScalar cc) (b := (Proc.scScalar cc).devRef cc1_scratch0)).mpr rfl)

/-- One SparseCore's run, given the semaphore it brings the labels in on: it hands back its rows of the result filled. -/
theorem run_part (c : Fin 2) (s : DmaSems sig S_) (R : sProp 𝕄)
    (hs : (cells0 d cc : sProp 𝕄) ⊣⊢ iprop(semVal (S d cc, .dma cc1_scratch1.sem) 0 ∗ semVal (S d cc, .dma s.sem) 0 ∗ R))
    (hF : (K (F := F)).Facts) (O : CellTallies nD τ sig (HIx 1)) (W : Waits sig (HIx 1)) (hO : ∀ g, O g none = 0) :
    iprop(levAts (K (F := F)).L (K (F := F)).lev ∗ emp ∗ part m d c (m (locY d))
        ∗ scopedBufs (S d cc) ∗ scopedSems0 (S d cc) ∗ owes (S d cc) O W)
      ⊢ wp frame (wpE (defs₀ (F := F)) 𝒱₀ (S d cc) none) Set.univ
          (moved yW shW cc1_scratch1 c xW (Memref.isWhole_whole _) (Memref.isWhole_whole _) s)
          fun _ => iprop(part m d c (yOf (xval m d)) ∗ scopedBufs (S d cc) ∗ scopedSems0 (S d cc)
            ∗ ∃ W', ⌜∀ p ∈ W', p ∈ W ∨ p.2 = none ∨ p.2 = some (0 : Fin 1)⌝ ∗ owes (S d cc) O W') := by
  rw [(K (F := F)).scopedBufs_S hF d _, SparseCore.Cfg.scopedSems0_S (Val := Elt F) d _, ownSems0_S, ownBufs_S]
  iintro ⟨#Hlv, -, ⟨Hx, Hy⟩, ⟨⟨⟨%fs, Hsh⟩, Hbufs⟩, Htiles⟩, ⟨⟨HC, Hsems⟩, HtileSems⟩, HO⟩
  ihave Hmw := ((K (F := F)).mayWaits_none (thr := S d cc) hO) $$ Hlv
  ihave HC := hs.1 $$ HC
  icases HC with ⟨H4, Hs, HR⟩
  iapply (wp_wand_r Idealize.ShloMosaic.frame (wpE (defs₀ (F := F)) 𝒱₀ (S d cc) none) Set.univ)
  isplitl [Hx Hy Hsh H4 Hs HO]
  · iapply (moved_run d cc c s cc1_scratch1 (xval m d) (m (locY d)) fs (shr c) O W)
    isplitr; · iexact Hmw
    isplitl [Hx]; · iexact Hx
    isplitl [Hy]; · iexact Hy
    isplitl [Hsh]; · iexact Hsh
    isplitl [H4]; · iexact H4
    isplitl [Hs]; · iexact Hs
    iexact HO
  iintro %_ ⟨Hx, Hy, Hsh, H4, Hs, %W', %hW', HO⟩
  isplitl [Hx Hy]
  · isplitl [Hx]; · iexact Hx
    iexact Hy
  isplitl [Hsh Hbufs Htiles]
  · isplitl [Hsh Hbufs]
    · isplitl [Hsh]; · iexact Hsh
      iexact Hbufs
    iexact Htiles
  isplitl [H4 Hs HR Hsems HtileSems]
  · isplitl [H4 Hs HR Hsems]
    · isplitl [H4 Hs HR]
      · iapply hs.2
        isplitl [H4]; · iexact H4
        isplitl [Hs]; · iexact Hs
        iexact HR
      iexact Hsems
    iexact HtileSems
  iexists W'; isplitr
  · ipureintro; exact fun p hp => (hW' p hp).imp_right Or.inl
  · iexact HO

omit [FloatOps F] in
theorem cells_zero : (cells0 d cc : sProp 𝕄) ⊣⊢ iprop(semVal (S d cc, .dma cc1_scratch1.sem) 0
    ∗ semVal (S d cc, .dma cc1_scoped0.sem) 0 ∗ semVal (S d cc, .dma cc1_scoped1.sem) 0) := .rfl

omit [FloatOps F] in
theorem cells_one : (cells0 d cc : sProp 𝕄) ⊣⊢ iprop(semVal (S d cc, .dma cc1_scratch1.sem) 0
    ∗ semVal (S d cc, .dma cc1_scoped1.sem) 0 ∗ semVal (S d cc, .dma cc1_scoped0.sem) 0) := by
  constructor
  · iintro ⟨H1, H2, H3⟩
    isplitl [H1]; · iexact H1
    isplitl [H3] <;> iassumption
  · iintro ⟨H1, H2, H3⟩
    isplitl [H1]; · iexact H1
    isplitl [H3] <;> iassumption

end Own

/-! ## The launch theorem's obligation -/

/-- A grid point of the call, from its SparseCore. -/
def coordsS (c : Fin (grid1.bound 0)) : grid1.Coords := fun | 0 => c | ⟨_ + 1, h⟩ => absurd h (Nat.not_lt.2 (Nat.le_add_left _ _))

theorem defs₀_scalar (c : Fin τ.nSC) :
    defs₀ (F := F) (.scScalar c) 1 ()
      = SparseCore.onCore hcore1 (fun c => cc1__sc_tgt_body (coordsS c) xW (Memref.isWhole_whole _) yW (Memref.isWhole_whole _)
          shW (Memref.isWhole_whole _) cc1_scratch1 cc1_scoped0 cc1_scoped1) ⟨⟩ c := rfl

/-- The call's body on either SparseCore. -/
theorem body_run (d : Dev nD) (c : Fin (grid1.bound 0)) (O : CellTallies nD τ sig (HIx 1)) (W : Waits sig (HIx 1)) (hO : ∀ g, O g none = 0) :
    iprop(levAts (K (F := F)).L (K (F := F)).lev ∗ emp ∗ part m d (half c.val) (m (locY d))
        ∗ scopedBufs (S d (c.castLE hcore1)) ∗ scopedSems0 (S d (c.castLE hcore1)) ∗ owes (S d (c.castLE hcore1)) O W)
      ⊢ wp frame (wpE (defs₀ (F := F)) 𝒱₀ (S d (c.castLE hcore1)) none) Set.univ
          (cc1__sc_tgt_body (coordsS c) xW (Memref.isWhole_whole _) yW (Memref.isWhole_whole _) shW (Memref.isWhole_whole _)
            cc1_scratch1 cc1_scoped0 cc1_scoped1)
          fun _ => iprop(part m d (half c.val) (yOf (xval m d)) ∗ scopedBufs (S d (c.castLE hcore1)) ∗ scopedSems0 (S d (c.castLE hcore1))
            ∗ ∃ W', ⌜∀ p ∈ W', p ∈ W ∨ p.2 = none ∨ p.2 = some (0 : Fin 1)⌝ ∗ owes (S d (c.castLE hcore1)) O W') := by
  rcases Nat.lt_or_ge c.val 1 with h | h
  · have h0 : c.val = 0 := by omega
    rw [show half c.val = 0 by rw [h0]; rfl]
    have e : cc1__sc_tgt_body (F := F) (coordsS c) xW (Memref.isWhole_whole _) yW (Memref.isWhole_whole _) shW (Memref.isWhole_whole _) cc1_scratch1 cc1_scoped0 cc1_scoped1
        = moved (F := F) (cc := c.castLE hcore1) yW shW cc1_scratch1 0 xW (Memref.isWhole_whole _) (Memref.isWhole_whole _) cc1_scoped0 :=
      body_eq_zero (F := F) (coordsS c) xW (Memref.isWhole_whole _) yW (Memref.isWhole_whole _) shW (Memref.isWhole_whole _) cc1_scratch1 cc1_scoped0 cc1_scoped1 h0
    rw [e]
    have r := run_part m d (c.castLE hcore1) 0 cc1_scoped0 _ (cells_zero d (c.castLE hcore1)) facts O W hO
    exact r
  · have h1 : c.val = 1 := by have : c.val < 2 := c.isLt; omega
    rw [show half c.val = 1 by rw [h1]; rfl]
    have e : cc1__sc_tgt_body (F := F) (coordsS c) xW (Memref.isWhole_whole _) yW (Memref.isWhole_whole _) shW (Memref.isWhole_whole _) cc1_scratch1 cc1_scoped0 cc1_scoped1
        = moved (F := F) (cc := c.castLE hcore1) yW shW cc1_scratch1 1 xW (Memref.isWhole_whole _) (Memref.isWhole_whole _) cc1_scoped1 :=
      body_eq_one (F := F) (coordsS c) xW (Memref.isWhole_whole _) yW (Memref.isWhole_whole _) shW (Memref.isWhole_whole _) cc1_scratch1 cc1_scoped0 cc1_scoped1 h1
    rw [e]
    have r := run_part m d (c.castLE hcore1) 1 cc1_scoped1 _ (cells_one d (c.castLE hcore1)) facts O W hO
    exact r

/-- Each SparseCore's sequencer, from what the call hands it, to what the call is to get back. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  exact body_run m d ⟨_, hc⟩ O W hO

/-! ## The arrays dealt to the two SparseCores and put back -/

theorem rows_eq (d : Dev nD) (f : S256x128.Idx → Elt F .i32) :
    (locY d ↦{fullShare} f : sProp 𝕄) = iprop(bigSep Finset.univ (dstPt d 0 f) ∗ bigSep Finset.univ (dstPt d 1 f)) := by
  rw [show (locY d ↦{fullShare} f : sProp 𝕄) = locY d ↦[Finset.univ.biUnion dstSet]{fullShare} f by rw [dstSet_cover],
    pointsTo_biUnion _ _ fun r _ r' _ h => dstSet_disjoint r r' h,
    bigSep_univ_equiv (Equiv.ofBijective _ dstOf_bij) (fun r => (locY d ↦[dstSet r]{fullShare} f : sProp 𝕄)),
    ← Finset.univ_product_univ, SparseCore.bigSep_product, bigSep_univ_two]
  rfl

theorem deal (d : Dev nD) (f : S256x128.Idx → Elt F .i32) :
    (iprop((locX d ↦{fullShare} xval m d) ∗ (locY d ↦{fullShare} f)) : sProp 𝕄) ⊣⊢ iprop(part m d 0 f ∗ part m d 1 f) := by
  rw [rows_eq]
  have hx := pointsTo_share (Ix := HIx 1) (Val := Elt F) (Name := ℕ) (U := UU) (Lvl := ℕ) (I := Finset.univ) (f := xval m d) (ℓ := locX d) (PosShare.mem_left_op_right fullShare)
  constructor
  · iintro ⟨Hx, H0, H1⟩
    ihave Hx := hx.1 $$ Hx
    icases Hx with ⟨Ha, Hb⟩
    isplitl [Ha H0]
    · isplitl [Ha]; · iexact Ha
      iexact H0
    isplitl [Hb]; · iexact Hb
    iexact H1
  · iintro ⟨⟨Ha, H0⟩, Hb, H1⟩
    isplitl [Ha Hb]
    · iapply hx.2
      isplitl [Ha]; · iexact Ha
      iexact Hb
    isplitl [H0] <;> iassumption

theorem st_eq (d : Dev nD) : (bigSep Finset.univ fun c : Fin ((K (F := F)).nCore 0) => (P m).st 0 d c)
    = iprop(part m d 0 (m (locY d)) ∗ part m d 1 (m (locY d))) := bigSep_univ_two _
theorem dn_eq (d : Dev nD) : (bigSep Finset.univ fun c : Fin ((K (F := F)).nCore 0) => (P m).dn 0 d c)
    = iprop(part m d 0 (yOf (xval m d)) ∗ part m d 1 (yOf (xval m d))) := bigSep_univ_two _

end Cert.Proof.Seq
-- ==== Proof.Table.lean ====
/-
  The table of destination rows the copy of the images reads at its index map: what it holds, which rows the
  map names for each grid point, and that those are in range.
-/
module

public import proofs.«01_k».proof.Proof.Perm
public import proofs.«01_k».proof.Proof.Gen.KernelIdeal.Launch
public import Idealize.ShloMosaic.Lib.Pipeline.Value

@[expose] public section

noncomputable section

namespace Cert.Proof.Table

open Cert.KernelIdeal Cert.KernelIdeal.Gen Cert.Proof.Perm
open Idealize.ShloMosaic

variable {F : FTy → Type} [FloatOps F]

/-- The table, as @main's first operation writes it. -/
def tbl0 : S4x64.Idx → Elt F .i32 := fun i => lit0 (S4x64.rowMajor i)
def tbl : pre0.Contents (Elt F) := fun | 0 => tbl0 (F := F) | ⟨_ + 1, h⟩ => absurd h (Nat.not_lt.2 (Nat.le_add_left _ _))

/-- The source row and the destination row of a grid point. -/
abbrev rowS (i : grid0.Coords) : Fin 64 := i 0
def rowD (i : grid0.Coords) : Fin 256 :=
  have h0 : (i 0).val < 64 := (i 0).isLt
  have h1 : (i 1).val < 4 := (i 1).isLt
  dstOf ⟨(i 0).val / 32, by omega⟩ ⟨4 * ((i 0).val % 32) + (i 1).val, by omega⟩

theorem srcAt_rowD (i : grid0.Coords) : srcAt (rowD i) = rowS i := by
  unfold rowD; rw [srcAt_dstOf]
  have h0 : (i 0).val < 64 := (i 0).isLt
  have h1 : (i 1).val < 4 := (i 1).isLt
  apply Fin.ext; simp only [srcOf, rowS]; omega

theorem dstOf_congr {c c' : Fin 2} {j j' : Fin 128} (hc : c.val = c'.val) (hj : j.val = j'.val) : dstOf c j = dstOf c' j' := by
  rw [Fin.ext hc, Fin.ext hj]

theorem rowD_surj : ∀ r : Fin 256, ∃ i : grid0.Coords, rowD i = r := by
  intro r
  have hp := (posOf r).1.isLt; have hq := (posOf r).2.isLt
  refine ⟨fun | (0 : Fin 2) => (⟨32 * (posOf r).1.val + (posOf r).2.val / 4, by omega⟩ : Fin 64) | (1 : Fin 2) => (⟨(posOf r).2.val % 4, by omega⟩ : Fin 4), ?_⟩
  refine Eq.trans ?_ (dstOf_posOf r)
  refine dstOf_congr ?_ ?_
  · change (32 * (posOf r).1.val + (posOf r).2.val / 4) / 32 = _
    omega
  · change 4 * ((32 * (posOf r).1.val + (posOf r).2.val / 4) % 32) + (posOf r).2.val % 4 = _
    omega

theorem dstOf_inj {c c' : Fin 2} {j j' : Fin 128} (h : dstOf c j = dstOf c' j') : c.val = c'.val ∧ j.val = j'.val := by
  have e : (c, j) = (c', j') := dstOf_bij.1 h
  exact ⟨congrArg (fun p : Fin 2 × Fin 128 => p.1.val) e, congrArg (fun p : Fin 2 × Fin 128 => p.2.val) e⟩

theorem rowD_inj : Function.Injective rowD := by
  intro i i' h
  have h0 : (i 0).val < 64 := (i 0).isLt
  have h1 : (i 1).val < 4 := (i 1).isLt
  have h0' : (i' 0).val < 64 := (i' 0).isLt
  have h1' : (i' 1).val < 4 := (i' 1).isLt
  obtain ⟨e1, e2⟩ := dstOf_inj h
  simp only [] at e1 e2
  have f0 : (i 0).val = (i' 0).val := by omega
  have f1 : (i 1).val = (i' 1).val := by omega
  funext a
  fin_cases a
  · exact Fin.ext f0
  · exact Fin.ext f1

theorem lit0_lt : ∀ n : Fin 256, (lit0 n).toNat < 256 := by decide +kernel

/-- What the two index maps give. -/
theorem index0 (i : grid0.Coords) : cc0_transform_0 i = ![(rowS i).val, 0, 0, 0] := by
  have h0 : (i 0).val < 64 := (i 0).isLt
  unfold cc0_transform_0
  simp only [BitVec.toNat_ofNat]
  rw [Nat.mod_eq_of_lt (by omega)]

theorem lit0_at (i : grid0.Coords) (n : Fin 256) (h : n.val = 64 * (i 1).val + (i 0).val) : (lit0 n).toNat = (rowD i).val := by
  have h0 : (i 0).val < 64 := (i 0).isLt
  have h1 : (i 1).val < 4 := (i 1).isLt
  unfold rowD dstOf
  simp only [Fin.ofNat]
  rw [Nat.mod_eq_of_lt (lit0_lt _)]
  congr 2
  apply Fin.ext; simp only []; omega

theorem tbl_at (i : grid0.Coords) (q : (Rect.unit (s := S4x64) (k0_off1 i) S1x1.size (k0_off1_inb i)).shape.Idx) :
    (tbl0 (F := F) ((Rect.unit (s := S4x64) (k0_off1 i) S1x1.size (k0_off1_inb i)).emb q) : BitVec 32).toNat = (rowD i).val := by
  have h0 : (i 0).val < 64 := (i 0).isLt
  have h1 : (i 1).val < 4 := (i 1).isLt
  refine lit0_at i _ ?_
  rw [Shape.rowMajor_val_two, Rect.emb_apply, Rect.emb_apply]
  have q0 : (q 0).val < 1 := (q 0).isLt
  have q1 : (q 1).val < 1 := (q 1).isLt
  simp [k0_off1, Scalar.indexCast]
  omega

theorem index1 (i : grid0.Coords) : cc0_transform_1 k0_off1_inb numel1_S1x1 (tbl (F := F)) i = ![(rowD i).val, 0, 0, 0] := by
  have key : ((tbl (F := F)).at 0 (Rect.unit (s := S4x64) (k0_off1 i) S1x1.size (k0_off1_inb i)) numel1_S1x1 : BitVec 32).toNat = (rowD i).val :=
    tbl_at (F := F) i _
  unfold cc0_transform_1
  funext a
  fin_cases a
  · exact key
  · rfl
  · rfl
  · rfl

theorem tbl_ok : ok0 (F := F) (tbl (F := F)) := by
  intro i
  refine ⟨fun a => ?_, Or.inl rfl⟩
  rw [index1]
  have := (rowD i).isLt
  fin_cases a <;> simp <;> omega

end Cert.Proof.Table
-- ==== Proof.Region.lean ====
/-
  The copy of the images on the TensorCore: its body, its data at the table's contents, what the result holds at the end,
  and the region as the program enters and leaves it.
-/
module

public import proofs.«01_k».proof.Proof.Base
public import proofs.«01_k».proof.Proof.Table
public import Idealize.ShloMosaic.Lib.Pipeline.RegionArraysT
public import Idealize.ShloMosaic.Lib.Pipeline.FrameBody
public import Idealize.ShloMosaic.Lib.Tactic
public import Idealize.ShloMosaic.Lib.VecWindow

@[expose] public section

noncomputable section

namespace Cert.Proof.Region

open Cert.KernelIdeal Cert.KernelIdeal.Gen Cert.Proof.Base Cert.Proof.Table Cert.Proof.Perm
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## The body -/

/-- The body leaves in the second staging buffer what the first holds. -/
theorem body_run (c : Dev nD) (i : grid0.Coords) (M0 : Memref sig .tc .vmem S1x3x224x224 .f32) (h0 : M0.IsWhole)
    (M1 : Memref sig .tc .vmem S1x3x224x224 .f32) (h1 : M1.IsWhole)
    (f0 : Buf (Elt F) (M0.view.loc (c : Thread nD τ))) (f1 : Buf (Elt F) (M1.view.loc (c : Thread nD τ)))
    (Q : PUnit → sProp (MM F)) :
    iprop((M0.view.loc (c : Thread nD τ) ↦{fullShare} f0) ∗ (M1.view.loc (c : Thread nD τ) ↦{fullShare} f1)
        ∗ (∀ f, ⌜M1.view.read (Elt F) f = M0.view.read (Elt F) f0⌝ -∗ iprop((M0.view.loc (c : Thread nD τ) ↦{fullShare} f0) ∗ (M1.view.loc (c : Thread nD τ) ↦{fullShare} f)) -∗ Q ⟨⟩))
      ⊢ wp frame (wpE (defs₀ (F := F)) 𝒱₀ c none) Set.univ (cc0__tc_body i (Memref.whole main_c) (Memref.isWhole_whole _) M0 h0 M1 h1) Q := by
  iintro ⟨H0, H1, Hk⟩
  sl_exec!
  sl_step
  iapply Hk $$ %_ [] [H0 H1]
  rotate_left
  · isplitl [H0]; · iexact H0
    iexact H1
  ipureintro
  exact (View.read_writes_full M1.view _ _ _ []).trans (View.readAt_full M0.view f0 _)

/-- The same over two staging memrefs owned at contents: the body leaves the first's in both. -/
theorem body_owns (c : Dev nD) (i : grid0.Coords) (M0 : Memref sig .tc .vmem S1x3x224x224 .f32) (h0 : M0.IsWhole)
    (M1 : Memref sig .tc .vmem S1x3x224x224 .f32) (h1 : M1.IsWhole) (X X' Y : S1x3x224x224.Idx → Elt F .f32) (hX : X = X') (Q : PUnit → sProp (MM F)) :
    iprop(owns (c : Thread nD τ) M0 fullShare X ∗ owns (c : Thread nD τ) M1 fullShare Y
        ∗ (iprop(owns (c : Thread nD τ) M0 fullShare X' ∗ owns (c : Thread nD τ) M1 fullShare X') -∗ Q ⟨⟩))
      ⊢ wp frame (wpE (defs₀ (F := F)) 𝒱₀ c none) Set.univ (cc0__tc_body i (Memref.whole main_c) (Memref.isWhole_whole _) M0 h0 M1 h1) Q := by
  subst hX
  unfold owns
  rw [h0.set_eq_univ, h1.set_eq_univ]
  iintro ⟨⟨%f0, %hf0, H0⟩, ⟨%f1, -, H1⟩, Hk⟩
  subst hf0
  iapply (body_run c i M0 h0 M1 h1 f0 f1 _)
  isplitl [H0]; · iexact H0
  isplitl [H1]; · iexact H1
  iintro %f %hf ⟨H0, H1⟩
  iapply Hk
  isplitl [H0]
  · iexists f0; isplitr; · ipureintro; rfl
    iexact H0
  iexists f; isplitr; · ipureintro; exact hf
  iexact H1

/-! ## The pipeline at the table's contents -/

abbrev adm0 : (pcfgs (F := F) 0).Adm := ⟨tbl, tbl_ok⟩
abbrev adm : (p : Fin 1) → (pcfgs (F := F) p).Adm := fun | 0 => adm0 | ⟨_ + 1, h⟩ => absurd h (Nat.not_lt.2 (Nat.le_add_left _ _))
abbrev C0 : Cfg sig Λ₀ := Pipeline.pin (pcfgs (F := F)) adm 0

theorem stride_0 : grid0.stride 0 = 4 := by decide
theorem stride_1 : grid0.stride 1 = 1 := by decide
theorem coords_0 (t : Fin grid0.N) : (grid0.coords t 0).val = t.val / 4 := by
  have h : t.val < 256 := lt_of_lt_of_eq t.isLt N_0
  have e : (grid0.coords t 0).val = t.val / grid0.stride 0 % 64 := rfl
  rw [e, stride_0]; omega
theorem coords_1 (t : Fin grid0.N) : (grid0.coords t 1).val = t.val % 4 := by
  have e : (grid0.coords t 1).val = t.val / grid0.stride 1 % 4 := rfl
  rw [e, stride_1]; omega

theorem win_index0 (t : Fin grid0.N) : ((C0 (F := F)).win 0).index t = ![(rowS (grid0.coords t)).val, 0, 0, 0] := index0 _
theorem win_index1 (t : Fin grid0.N) : ((C0 (F := F)).win 1).index t = ![(rowD (grid0.coords t)).val, 0, 0, 0] := index1 _

theorem flush_all (t : Fin grid0.N) : ((C0 (F := F)).win 1).flush t = true := by
  unfold Window.flush
  rw [Bool.and_eq_true, Bool.or_eq_true]
  refine ⟨rfl, ?_⟩
  by_cases h : t.val + 1 = grid0.N
  · exact Or.inl (decide_eq_true h)
  · refine Or.inr (decide_eq_true ?_)
    have h' : t.val + 1 < grid0.N := Nat.lt_of_le_of_ne t.isLt h
    refine ⟨h', fun e => ?_⟩
    have e1 : ![(rowD (grid0.coords ⟨t.val + 1, h'⟩)).val, 0, 0, 0] = ![(rowD (grid0.coords t)).val, 0, 0, 0] :=
      ((win_index1 (F := F) _).symm.trans e).trans (win_index1 (F := F) _)
    have e2 := rowD_inj (Fin.ext (congrFun e1 0))
    have e3 := congrArg (fun i : grid0.Coords => (i 1).val) e2
    simp only [coords_1] at e3
    omega

/-! ## The proof data -/

variable (d : Dev nD) (x : Buf (Elt F) (loc0 d)) (o : Buf (Elt F) (locO d))

/-- What the copied array holds at the end: every row the source row the table sends there. -/
def gOf : Buf (Elt F) (locO d) :=
  fun i : S256x3x224x224.Idx => x (fun | (0 : Fin 4) => srcAt (i 0) | (1 : Fin 4) => i 1 | (2 : Fin 4) => i 2 | (3 : Fin 4) => i 3 : S64x3x224x224.Idx)

/-- The block of the images a point stages. -/
abbrev stg (t : Fin grid0.N) : S1x3x224x224.Idx → Elt F .f32 := (((C0 (F := F)).win 0).blk t).view.read (Elt F) x

/-- What the TensorCore still owes the SparseCores' handshakes all along. -/
abbrev owedT (d : Dev nD) : CellTallies nD τ sig (HIx 1) := (K (F := F)).Otc d 0

/-- What the copy is told of its arrays: each point's block of the images is staged and flushed as it is, and the table is
    held all along. -/
def dat : Dat τ (Elt F) (HIx 1) ℕ UU ℕ (C0 (F := F)) d where
  A w := match w with
    | ⟨0, _⟩ => x
    | ⟨1, _⟩ => o
  after w t := match w with
    | ⟨0, _⟩ => stg d x t
    | ⟨1, _⟩ => stg d x t
  Φ _ := Pipeline.prefHeld pre0 d (fun _ => fullShare) (tbl (F := F))
  q _ := fullShare
  owed _ := owedT (F := F) d
  recorded _ := {p | p.2 = none}

def pdats (x : (d : Dev nD) → Buf (Elt F) (loc0 d)) (o : (d : Dev nD) → Buf (Elt F) (locO d)) :
    (p : Fin 1) → (c : Dev nD) → Dat τ (Elt F) (HIx 1) ℕ UU ℕ (Pipeline.pin (pcfgs (F := F)) adm p) c
  | 0 => fun c => dat c (x c) (o c)
  | ⟨_ + 1, h⟩ => absurd h (Nat.not_lt.2 (Nat.le_add_left _ _))

theorem before_in (t : Fin grid0.N) (u) : (dat d x o).before 0 t u = stg d x t :=
  (dat d x o).before_in_eq_fetched 0 rfl (fun _ => rfl) (fun _ _ _ => rfl) (fun _ => rfl) t u

theorem body_obligation : BodyObligation (dat d x o) (defs₀ (F := F)) 𝒱₀ none Set.univ := fun t => by
  rw [bigSep_W0, bigSep_W0]
  rw [show (dat d x o).Φ t.succ = (dat d x o).Φ t.castSucc from rfl,
    show (dat d x o).owesAt none t.succ = (dat d x o).owesAt none t.castSucc from rfl]
  iintro ⟨HΦ, Howes, ⟨%d0, H0⟩, ⟨%d1, H1⟩⟩
  iapply (body_owns d (grid0.coords t) (stage0_0 (C0 (F := F) |>.slots t 0)) (hstage0_0 _) (stage0_1 (C0 (F := F) |>.slots t 1)) (hstage0_1 _)
    ((dat d x o).before 0 t d0) (stg d x t) ((dat d x o).before 1 t d1) (before_in d x o t d0) _)
  isplitl [H0]; · iexact H0
  isplitl [H1]; · iexact H1
  iintro ⟨H0, H1⟩
  isplitl [HΦ]; · iexact HΦ
  isplitl [Howes]; · iexact Howes
  isplitl [H0]; · iexact H0
  iexact H1

/-! ## The copied array at the end -/

/-- Where an element of a point's block sits in the images and in the result. -/
abbrev emb0 (t : Fin grid0.N) (y : S1x3x224x224.Idx) : S64x3x224x224.Idx := (((C0 (F := F)).win 0).rect t).emb y
abbrev emb1 (t : Fin grid0.N) (y : S1x3x224x224.Idx) : S256x3x224x224.Idx := (((C0 (F := F)).win 1).rect t).emb y

theorem emb0_val (t : Fin grid0.N) (y : S1x3x224x224.Idx) (a : Fin 4) :
    (emb0 (F := F) t y a).val = ![(rowS (grid0.coords t)).val, 0, 0, 0] a * S1x3x224x224.size a + (y a).val :=
  (Window.rect_emb_val ((C0 (F := F)).win 0) t y a).trans (by rw [win_index0]; rfl)

theorem emb1_val (t : Fin grid0.N) (y : S1x3x224x224.Idx) (a : Fin 4) :
    (emb1 (F := F) t y a).val = ![(rowD (grid0.coords t)).val, 0, 0, 0] a * S1x3x224x224.size a + (y a).val :=
  (Window.rect_emb_val ((C0 (F := F)).win 1) t y a).trans (by rw [win_index1]; rfl)

theorem emb1_row (t : Fin grid0.N) (y : S1x3x224x224.Idx) : emb1 (F := F) t y 0 = rowD (grid0.coords t) := by
  apply Fin.ext
  rw [emb1_val t y 0]
  have : (y 0).val < 1 := (y 0).isLt
  change (rowD (grid0.coords t)).val * 1 + (y 0).val = _
  omega

theorem stg_eq (t : Fin grid0.N) (y : S1x3x224x224.Idx) : stg d x t y = gOf d x (emb1 (F := F) t y) := by
  change x (emb0 (F := F) t y) = x _
  congr 1
  funext a
  apply Fin.ext
  rw [emb0_val t y a]
  have h0 : (y 0).val < 1 := (y 0).isLt
  fin_cases a
  · change (rowS (grid0.coords t)).val * 1 + (y 0).val = (srcAt (emb1 (F := F) t y 0)).val
    rw [emb1_row, srcAt_rowD]; omega
  · exact (emb1_val t y 1).symm
  · exact (emb1_val t y 2).symm
  · exact (emb1_val t y 3).symm

/-- The point whose block is a given row of the result. -/
theorem point_of (r : Fin 256) : ∃ t : Fin grid0.N, rowD (grid0.coords t) = r := by
  obtain ⟨i, hi⟩ := rowD_surj r
  have h0 : (i 0).val < 64 := (i 0).isLt
  have h1 : (i 1).val < 4 := (i 1).isLt
  have hN : 4 * (i 0).val + (i 1).val < grid0.N := by rw [N_0]; omega
  refine ⟨⟨4 * (i 0).val + (i 1).val, hN⟩, ?_⟩
  rw [← hi]
  congr 1
  funext a
  fin_cases a
  · exact Fin.ext ((coords_0 _).trans (show (4 * (i 0).val + (i 1).val) / 4 = (i 0).val by omega))
  · exact Fin.ext ((coords_1 _).trans (show (4 * (i 0).val + (i 1).val) % 4 = (i 1).val by omega))

theorem arr_out : (dat d x o).arrAt 1 (C0 (F := F)).N = gOf d x := by
  refine (dat d x o).arrAt_eq_of_cover 1 (gOf d x) (fun t _ => ?_) (fun i => ?_)
  · funext y
    exact stg_eq d x t y
  · obtain ⟨t, ht⟩ := point_of (i (0 : Fin 4))
    refine ⟨t, flush_all t, ?_⟩
    have e : i = (((C0 (F := F)).win 1).blk t).view.emb (fun | (0 : Fin 4) => (0 : Fin 1) | (1 : Fin 4) => i (1 : Fin 4) | (2 : Fin 4) => i (2 : Fin 4) | (3 : Fin 4) => i (3 : Fin 4) : S1x3x224x224.Idx) := by
      funext a
      apply Fin.ext
      refine Eq.trans ?_ (emb1_val (F := F) t _ a).symm
      fin_cases a
      · change (i (0 : Fin 4)).val = (rowD (grid0.coords t)).val * 1 + 0
        rw [ht]; omega
      · change (i (1 : Fin 4)).val = 0 * 3 + (i (1 : Fin 4)).val; omega
      · change (i (2 : Fin 4)).val = 0 * 224 + (i (2 : Fin 4)).val; omega
      · change (i (3 : Fin 4)).val = 0 * 224 + (i (3 : Fin 4)).val; omega
    rw [e]
    exact View.emb_mem_set _ _

/-! ## The region -/

/-- What the region is entered from and left with: the images, the copied array, the table, and what the TensorCore owes,
    only pairs at the kernels' own index recorded. -/
def held (d : Dev nD) (x : Buf (Elt F) (loc0 d)) (o : Buf (Elt F) (locO d)) : sProp (MM F) :=
  iprop((loc0 d ↦{fullShare} x) ∗ (locO d ↦{fullShare} o) ∗ Pipeline.prefHeld pre0 d (fun _ => fullShare) (tbl (F := F))
    ∗ ∃ W, ⌜∀ p ∈ W, p.2 = none⌝ ∗ owes (d : Thread nD τ) (owedT (F := F) d) W)

theorem arrays_two (x : (d : Dev nD) → Buf (Elt F) (loc0 d)) (o : (d : Dev nD) → Buf (Elt F) (locO d)) (G : (w : Fin 2) → Buf (Elt F) (((C0 (F := F)).win w).arr.view.loc (d : Thread nD τ))) :
    ((pdats x o 0 d).arrays G : sProp (MM F)) = iprop((loc0 d ↦{fullShare} G 0) ∗ (locO d ↦{fullShare} G 1)) := by
  unfold Dat.arrays
  rw [show (bigSep (Finset.univ : Finset (Fin (Pipeline.pin (pcfgs (F := F)) adm 0).W)) : _ → sProp (MM F)) = bigSep (Finset.univ : Finset (Fin 2)) from rfl, bigSep_W0]
  rw [(arr_whole0 0).set_eq_univ, (arr_whole0 1).set_eq_univ]
  rfl

set_option backward.isDefEq.respectTransparency.types false in
/-- The region: entered from the images, any result, and the table; left with the result the images' rows in order. -/
def reg (x : (d : Dev nD) → Buf (Elt F) (loc0 d)) (o : (d : Dev nD) → Buf (Elt F) (locO d)) :
    Pipeline.RegionSeg (pcfgs (F := F)) adm (pdats x o) none defs₀ 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (body_obligation c (x c) (o c)).loose
  hwaits c := Pipeline.cellsWaits_of_cut (Pipeline.pin (pcfgs (F := F)) adm) (pdats x o) none 0 c 0 (owedT (F := F) c) (fun _ => rfl)
    (fun _ _ => Finset.mem_univ _) (fun _ _ => le_rfl) (fun g i h => ⟨Finset.mem_univ _, lt_of_lt_of_le (Nat.succ_pos _) ((K (F := F)).lev_of_Otc_pos h)⟩)
  pre c := held c (x c) (o c)
  post c := held c (x c) (gOf c (x c))
  X _ := BI.emp
  Y c := Pipeline.prefHeld pre0 c (fun _ => fullShare) (tbl (F := F))
  Z _ := BI.emp
  hentry c := by
    rw [Pipeline.ownSems0_none]
    unfold held
    iintro ⟨⟨Hx, Ho, Hpf, %W, %hW, HO⟩, -, -⟩
    imodintro
    isplitl [Hx Ho]
    · iapply (Entails.of_eq (arrays_two c x o _).symm)
      isplitl [Hx]; · iexact Hx
      iexact Ho
    isplitl [Hpf]; · iexact Hpf
    isplitl [HO]
    · unfold Pipeline.Dat.owesAt Pipeline.owesWithin Pipeline.Dat.bound
      iexists W; isplitr; · ipureintro; exact fun p hp => Or.inl (hW p hp)
      iexact HO
    isplitr; · iempintro
    iempintro
  hin c := by
    rw [show (pdats x o 0 c).Φ 0 = Pipeline.prefHeld pre0 c (fun _ => fullShare) (tbl (F := F)) from rfl]
    iintro ⟨-, Hpf, -⟩; iexact Hpf
  hout c := by
    rw [Pipeline.ownSems0_none, show (pdats x o 0 c).Φ (Fin.last _) = Pipeline.prefHeld pre0 c (fun _ => fullShare) (tbl (F := F)) from rfl]
    iintro Hpf
    isplitl [Hpf]; · iexact Hpf
    isplitr; · iempintro
    iapply (Entails.of_eq (scopedRest0_eq c).symm)
    iempintro
  hexit c := by
    unfold held
    iintro ⟨Ha, HO, Hpf, -⟩
    ihave Ha := (Entails.of_eq (arrays_two c x o _)) $$ Ha
    icases Ha with ⟨Hx, Ho⟩
    imodintro
    isplitl [Hx]
    · iapply (Entails.of_eq (congrArg (fun f => (loc0 c ↦{fullShare} f : sProp (MM F))) ((dat c (x c) (o c)).arrAt_in 0 rfl _)))
      iexact Hx
    isplitl [Ho]
    · iapply (Entails.of_eq (congrArg (fun f => (locO c ↦{fullShare} f : sProp (MM F))) (arr_out c (x c) (o c))))
      iexact Ho
    isplitl [Hpf]; · iexact Hpf
    unfold Pipeline.Dat.owesAt Pipeline.owesWithin Pipeline.Dat.bound
    icases HO with ⟨%W, %hW, HO⟩
    iexists W
    isplitr
    · ipureintro
      intro p hp
      rcases hW hp with h | ⟨w, s, h⟩
      · exact h
      · rw [h]
    iexact HO

end Cert.Proof.Region
-- ==== Proof.Main.lean ====
/-
  The TensorCore's part: the table, the copied images, the labels repeated along rows, the call to the SparseCores, and
  the labels read back off the first column; and the whole program's run, what each buffer holds at its end.
-/
module

public import proofs.«01_k».proof.Proof.Seq
public import proofs.«01_k».proof.Proof.Region

@[expose] public section

noncomputable section

namespace Cert.Proof.Main

open Cert.KernelIdeal Cert.KernelIdeal.Gen Cert.Proof.Base Cert.Proof.Perm Cert.Proof.Table Cert.Proof.Move Cert.Proof.Seq
open Cert.Proof.Region (adm pdats reg gOf owedT)
open Idealize.ShloMosaic Idealize.ShloMosaic.StableHlo
open Idealize.ShloMosaic.SparseCore (S V)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-! ## The launch element: the handshakes' rounds and the pipeline's -/

abbrev pins : Fin 1 → Pipeline.Cfg sig Λ₀ := Pipeline.pin (pcfgs (F := F)) adm
theorem pinj : Function.Injective (Pipeline.cellOf (nD := nD) (τ := τ) (pins (F := F))) := cellOf_inj adm

def u₀ : UU := (initOf (K (F := F)).hsCells (K (F := F)).hsToks,
  (initOf (Pipeline.cells (pins (F := F)) pinj) (Pipeline.launchToks (pins (F := F)) pinj), 1))

/-- The pipeline's ghost state, what the launch deals each TensorCore. -/
def G (d : Dev nD) : sProp 𝕄 :=
  iprop(Pipeline.cellsGhost (pins (F := F)) EP 0 d ∗ Pipeline.toksInit (pins (F := F)) EP 0 d)

omit [FloatOps F] in
theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) pinj) (Pipeline.launchToks (pins (F := F)) pinj), 1) : UP × Counters)) $$ Hu
  icases H with ⟨HH, HR⟩
  ihave H := (own_pair_emb (embR : Emb (UP × Counters) 𝕄) (initOf (Pipeline.cells (pins (F := F)) pinj) (Pipeline.launchToks (pins (F := F)) pinj)) (1 : Counters)) $$ HR
  icases H with ⟨HP, -⟩
  ihave HP := (show BI.own (((Emb.inl : Emb UP (UP × Counters)).trans (embR : Emb (UP × Counters) 𝕄)) (initOf (Pipeline.cells (pins (F := F)) pinj) (Pipeline.launchToks (pins (F := F)) pinj)))
    ⊢ BI.own (EP (F := F) (initOf (Pipeline.cells (pins (F := F)) pinj) (Pipeline.launchToks (pins (F := F)) pinj))) from Entails.of_eq rfl) $$ HP
  imod (Pipeline.fund_ghost (pins (F := F)) EP pinj) $$ HP with ⟨Hc, Ht⟩
  imodintro
  isplitl [HH]; · iexact HH
  isplitl [Hc Ht]
  · rw [show (bigSep Finset.univ (G (F := F)) : sProp 𝕄)
        = iprop((bigSep Finset.univ fun c : Dev nD => bigSep Finset.univ fun p => Pipeline.cellsGhost (pins (F := F)) EP p c)
          ∗ (bigSep Finset.univ fun c : Dev nD => bigSep Finset.univ fun p => Pipeline.toksInit (pins (F := F)) EP p c)) from by
      rw [← bigSep_sep']
      refine bigSep_congr fun d _ => ?_
      rw [bigSep_univ_of_subsingleton (0 : Fin 1), bigSep_univ_of_subsingleton (0 : Fin 1)]; rfl]
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## @main's buffers -/

abbrev c' : DevRef τ sig := Proc.devRef .tc (main_c : Ref sig .tc)
abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)
abbrev S9 : Finset (DevRef τ sig) := {c', a0', a1', r0', r1', r2', r3', r4', r5'}
abbrev loc (d : Dev nD) (b : Ref sig .tc) : Loc nD τ sig := (SparseCore.T d).loc b

omit [FloatOps F] in
theorem held_S9 (d : Dev nD) (W : Valuation τ sig (Elt F)) :
    (held (SparseCore.T d) S9 W : sProp 𝕄) = iprop((loc d main_c ↦{fullShare} W c') ∗ (loc d main_arg0 ↦{fullShare} W a0') ∗ (loc d main_arg1 ↦{fullShare} W a1')
      ∗ (loc d main_v0 ↦{fullShare} W r0') ∗ (loc d main_v1 ↦{fullShare} W r1') ∗ (loc d main_v2 ↦{fullShare} W r2') ∗ (loc d main_v3 ↦{fullShare} W r3')
      ∗ (loc d main_v4 ↦{fullShare} W r4') ∗ (loc d main_v5 ↦{fullShare} W r5')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscopedBufs_eq (d : Dev nD) (W : Valuation τ sig (Elt F)) :
    (unscopedBufs d (fun b => W (Proc.devRef .tc b)) : sProp 𝕄) = held (SparseCore.T d) S9 W := by
  rw [held_S9]
  unfold unscopedBufs
  rw [show (Finset.univ.filter fun b : Ref sig .tc => ¬ b.isScoped)
      = {main_c, main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The program's lines, and what the buffers hold after each -/

abbrev opC : HloOp τ sig (Elt F) := StableHlo.nullary main_c (fun i => lit0 (S4x64.rowMajor i))
abbrev op1 : HloOp τ sig (Elt F) := StableHlo.unary main_arg1 main_v1 (broadcastInDim S64x1 ![0] bcast_S64_S64x1_0 : (⟨S64, .i32⟩ : BufTy).Contents (Elt F) → (⟨S64x1, .i32⟩ : BufTy).Contents (Elt F))
abbrev op2 : HloOp τ sig (Elt F) := StableHlo.unary main_v1 main_v2 (broadcastInDim S64x128 ![0, 1] bcast_S64x1_S64x128_0_1 : (⟨S64x1, .i32⟩ : BufTy).Contents (Elt F) → (⟨S64x128, .i32⟩ : BufTy).Contents (Elt F))
abbrev op4 : HloOp τ sig (Elt F) := StableHlo.unary main_v3 main_v4 ((extractStridedSlice S256x1 ![0, 0] · slices_S256x128_S256x1_0_0) : (⟨S256x128, .i32⟩ : BufTy).Contents (Elt F) → (⟨S256x1, .i32⟩ : BufTy).Contents (Elt F))
abbrev op5 : HloOp τ sig (Elt F) := StableHlo.reshape main_v4 main_v5 (rfl : (.i32 : EltTy) = .i32) shapeCasts_S256x1_S256

variable (d : Dev nD)

def V0 : Valuation τ sig (Elt F) := fun b => m (d, b)
def V1 : Valuation τ sig (Elt F) := (opC (F := F)).result (V0 m d)
def V2 : Valuation τ sig (Elt F) := Function.update (V1 m d) r0' (gOf d (m (loc0 d)))
def V3 : Valuation τ sig (Elt F) := (op1 (F := F)).result (V2 m d)
def V4 : Valuation τ sig (Elt F) := (op2 (F := F)).result (V3 m d)
def V5 : Valuation τ sig (Elt F) := Function.update (V4 m d) r3' (yOf (xval m d))
def V6 : Valuation τ sig (Elt F) := (op4 (F := F)).result (V5 m d)
def V7 : Valuation τ sig (Elt F) := (op5 (F := F)).result (V6 m d)

theorem V1_c : V1 m d c' = tbl0 (F := F) := nullary_result main_c _ _ _
theorem V1_ne {r : Ref sig .tc} (h : r ≠ main_c) : V1 m d (Proc.devRef .tc r) = m (loc d r) := nullary_result_ne main_c _ _ _ h
theorem V2_ne {r : Ref sig .tc} (h : r ≠ main_v0) : V2 m d (Proc.devRef .tc r) = V1 m d (Proc.devRef .tc r) :=
  Function.update_of_ne (devRef_ne_of_ne h) _ _
theorem V3_ne {r : Ref sig .tc} (h : r ≠ main_v1) : V3 m d (Proc.devRef .tc r) = V2 m d (Proc.devRef .tc r) := unary_result_ne _ _ _ _ _ _ h
theorem V4_ne {r : Ref sig .tc} (h : r ≠ main_v2) : V4 m d (Proc.devRef .tc r) = V3 m d (Proc.devRef .tc r) := unary_result_ne _ _ _ _ _ _ h
theorem V5_ne {r : Ref sig .tc} (h : r ≠ main_v3) : V5 m d (Proc.devRef .tc r) = V4 m d (Proc.devRef .tc r) :=
  Function.update_of_ne (devRef_ne_of_ne h) _ _
theorem V6_ne {r : Ref sig .tc} (h : r ≠ main_v4) : V6 m d (Proc.devRef .tc r) = V5 m d (Proc.devRef .tc r) := unary_result_ne _ _ _ _ _ _ h
theorem V7_ne {r : Ref sig .tc} (h : r ≠ main_v5) : V7 m d (Proc.devRef .tc r) = V6 m d (Proc.devRef .tc r) := reshape_result_ne _ _ _ _ _ _ _ h

theorem V4_x : V4 m d r2' = xval m d := by
  have e1 : V4 m d r2' = broadcastInDim S64x128 ![0, 1] bcast_S64x1_S64x128_0_1 (V3 m d r1') := unary_result main_v1 main_v2 _ _ _ _
  have e2 : V3 m d r1' = broadcastInDim S64x1 ![0] bcast_S64_S64x1_0 (V2 m d a1') := unary_result main_arg1 main_v1 _ _ _ _
  rw [e1, e2, V2_ne m d (by decide), V1_ne m d (by decide)]
  rfl

/-- What @main leaves of the arguments and the results. -/
theorem V7_a0 : V7 m d a0' = m (loc0 d) := by
  rw [V7_ne m d (by decide), V6_ne m d (by decide), V5_ne m d (by decide), V4_ne m d (by decide), V3_ne m d (by decide), V2_ne m d (by decide), V1_ne m d (by decide)]
theorem V7_a1 : V7 m d a1' = m (loc1 d) := by
  rw [V7_ne m d (by decide), V6_ne m d (by decide), V5_ne m d (by decide), V4_ne m d (by decide), V3_ne m d (by decide), V2_ne m d (by decide), V1_ne m d (by decide)]
theorem V7_r0 : V7 m d r0' = gOf d (m (loc0 d)) := by
  rw [V7_ne m d (by decide), V6_ne m d (by decide), V5_ne m d (by decide), V4_ne m d (by decide), V3_ne m d (by decide)]
  exact Function.update_self _ _ _

/-- The permuted labels. -/
def labOf (y : S64.Idx → Elt F .i32) : S256.Idx → Elt F .i32 := fun r => y (fun | (0 : Fin 1) => srcAt (r 0))

theorem V7_r5 : V7 m d r5' = labOf (m (loc1 d)) := by
  have e1 : V7 m d r5' = fun i => shapeCast S256 (V6 m d r4' : S256x1.Idx → Elt F .i32) shapeCasts_S256x1_S256 i := reshape_result main_v4 main_v5 _ _ _ _ _
  have e2 : V6 m d r4' = extractStridedSlice S256x1 ![0, 0] (V5 m d r3') slices_S256x128_S256x1_0_0 := unary_result main_v3 main_v4 _ _ _ _
  have e3 : V5 m d r3' = yOf (xval m d) := Function.update_self _ _ _
  rw [e1, e2, e3]
  funext i
  have hc : Shape.reshapeEquiv (s := S256x1) (s' := S256) shapeCasts_S256x1_S256.symm i = (fun | 0 => i 0 | 1 => (0 : Fin 1) : S256x1.Idx) :=
    Shape.reshapeEquiv_eq_of_rowMajor _ (by
      rw [Shape.rowMajor_val_two, Shape.rowMajor_val_one]
      show (i 0).val * 1 + 0 = (i 0).val
      omega)
  show extractStridedSlice S256x1 ![0, 0] (yOf (xval m d)) slices_S256x128_S256x1_0_0 (Shape.reshapeEquiv _ i) = _
  rw [hc]
  unfold extractStridedSlice yOf xval labOf
  refine congrArg (m (loc1 d)) (funext fun a => ?_)
  obtain rfl : a = (0 : Fin 1) := Subsingleton.elim (α := Fin 1) _ _
  refine congrArg srcAt (Fin.ext ?_)
  show 0 + (i 0).val = (i 0).val
  omega

/-! ## The copied images -/

theorem table_held : (Pipeline.prefHeld pre0 d (fun _ => fullShare) (tbl (F := F)) : sProp 𝕄) = (loc d main_c ↦{fullShare} tbl0 (F := F)) :=
  bigSep_univ_of_subsingleton (0 : Fin 1)

/-- The copy's step of @main: the images copied, all else as it was. -/
theorem copy_run (Q : PUnit → sProp 𝕄) :
    iprop(levAts (K (F := F)).L (K (F := F)).lev ∗ (K (F := F)).tcSt EH d 0 ∗ boundary (SparseCore.T d) ∗ held (SparseCore.T d) S9 (V1 m d) ∗ G (F := F) d
        ∗ (((K (F := F)).tcSt EH d 0 ∗ boundary (SparseCore.T d) ∗ held (SparseCore.T d) S9 (V2 m d)) -∗ Q ⟨⟩))
      ⊢ wp frame (wpE ((K (F := F)).defs (D (F := F))) 𝒱 (SparseCore.T d) none) Set.univ
          (Prog.lift (.customCall (SparseCore.inner (Pipeline.entry 0)) ())) Q := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun _ => .ret ⟨⟩) from rfl]
  refine BI.Entails.trans ?_ ((K (F := F)).wp_liftProg (D (F := F)) 𝒱 (SparseCore.T d) Set.univ none _ _)
  have hR := Pipeline.RegionSeg.wp (pcfgs (F := F)) adm (pdats (fun d => m (loc0 d)) (fun d => m (locO d))) none pinj EP defs₀ 𝒱₀ (K (F := F)).L (K (F := F)).lev
    (reg (fun d => m (loc0 d)) (fun d => m (locO d))) d none (fun u hu => by cases hu) (fun _ => .ret ⟨⟩) Q
  refine BI.Entails.trans (show (_ : sProp 𝕄) ⊢ _ from ?_) hR
  rw [show (reg (F := F) (fun d => m (loc0 d)) (fun d => m (locO d))).pre d = Region.held d (m (loc0 d)) (m (locO d)) from rfl,
    show (reg (F := F) (fun d => m (loc0 d)) (fun d => m (locO d))).post d = Region.held d (m (loc0 d)) (gOf d (m (loc0 d))) from rfl]
  unfold SparseCore.Cfg.tcSt G Region.held
  rw [table_held, held_S9, held_S9, V1_c, V1_ne m d (r := main_arg0) (by decide), V1_ne m d (r := main_v0) (by decide)]
  rw [V2_ne m d (r := main_c) (by decide), V2_ne m d (r := main_arg0) (by decide), V2_ne m d (r := main_arg1) (by decide), V2_ne m d (r := main_v1) (by decide),
    V2_ne m d (r := main_v2) (by decide), V2_ne m d (r := main_v3) (by decide), V2_ne m d (r := main_v4) (by decide), V2_ne m d (r := main_v5) (by decide),
    V1_c, V1_ne m d (r := main_arg0) (by decide), show V2 m d r0' = gOf d (m (loc0 d)) from Function.update_self _ _ _]
  iintro ⟨#Hlv, ⟨⟨%W, %hW, HO⟩, Hst⟩, Hb, ⟨Hc, Hx, Ha1, Ho, H1, H2, H3, H4, H5⟩, ⟨HGc, HGt⟩, Hk⟩
  isplitl [Hst Ha1 H1 H2 H3 H4 H5 Hk]
  · iintro ⟨Hb, Hx, Ho, Hc, %W', %hW', HO⟩
    rw [wp_ret]; imodintro
    iapply Hk
    isplitl [HO Hst]
    · isplitl [HO]
      · iexists W'
        isplitr
        · ipureintro
          intro p hp
          rw [hW' p hp]
          exact Nat.zero_le _
        iexact HO
      iexact Hst
    isplitl [Hb]; · iexact Hb
    isplitl [Hc]; · iexact Hc
    isplitl [Hx]; · iexact Hx
    isplitl [Ha1]; · iexact Ha1
    isplitl [Ho]; · iexact Ho
    isplitl [H1]; · iexact H1
    isplitl [H2]; · iexact H2
    isplitl [H3]; · iexact H3
    isplitl [H4]; · iexact H4
    iexact H5
  isplitl [Hb]; · iexact Hb
  isplitl [Hx Ho Hc HO]
  · isplitl [Hx]; · iexact Hx
    isplitl [Ho]; · iexact Ho
    isplitl [Hc]; · iexact Hc
    iexists W
    isplitr
    · ipureintro
      intro p hp
      have h := hW p hp
      rcases hp' : p.2 with _ | q
      · rfl
      · rw [hp'] at h
        exact absurd (Nat.lt_of_lt_of_le ((K (F := F)).lev_some_pos _ q) h) (Nat.lt_irrefl _)
    iexact HO
  isplitr; · iexact Hlv
  isplitl [HGc] <;> iassumption

/-! ## The call -/

/-- What the call takes and gives back of @main's buffers. -/
theorem call_split : (held (SparseCore.T d) S9 (V4 m d) : sProp 𝕄)
    ⊢ iprop((bigSep Finset.univ fun c : Fin ((K (F := F)).nCore 0) => (P m).st 0 d c)
      ∗ ((bigSep Finset.univ fun c : Fin ((K (F := F)).nCore 0) => (P m).dn 0 d c) -∗ held (SparseCore.T d) S9 (V5 m d))) := by
  rw [st_eq, dn_eq, held_S9, held_S9, V4_x, V4_ne m d (r := main_v3) (by decide), V3_ne m d (r := main_v3) (by decide), V2_ne m d (r := main_v3) (by decide),
    V1_ne m d (r := main_v3) (by decide),
    V5_ne m d (r := main_c) (by decide), V5_ne m d (r := main_arg0) (by decide), V5_ne m d (r := main_arg1) (by decide), V5_ne m d (r := main_v0) (by decide),
    V5_ne m d (r := main_v1) (by decide), V5_ne m d (r := main_v2) (by decide), V5_ne m d (r := main_v4) (by decide), V5_ne m d (r := main_v5) (by decide), V4_x,
    show V5 m d r3' = yOf (xval m d) from Function.update_self _ _ _]
  iintro ⟨Hc, Hx, Ha1, Ho, H1, H2, H3, H4, H5⟩
  isplitl [H2 H3]
  · iapply (deal m d (m (locY d))).1
    isplitl [H2] <;> iassumption
  iintro Hd
  ihave Hd := (deal m d (yOf (xval m d))).2 $$ Hd
  icases Hd with ⟨H2, H3⟩
  isplitl [Hc]; · iexact Hc
  isplitl [Hx]; · iexact Hx
  isplitl [Ha1]; · iexact Ha1
  isplitl [Ho]; · iexact Ho
  isplitl [H1]; · iexact H1
  isplitl [H2]; · iexact H2
  isplitl [H3]; · iexact H3
  isplitl [H4]; · iexact H4
  iexact H5

/-! ## @main -/

/-- What @main leaves the claim: the arguments at their launch contents and the results. -/
abbrev FIN : sProp 𝕄 :=
  iprop((loc0 d ↦{fullShare} m (loc0 d)) ∗ (loc1 d ↦{fullShare} m (loc1 d)) ∗ (locO d ↦{fullShare} gOf d (m (loc0 d))) ∗ (loc d main_v5 ↦{fullShare} labOf (m (loc1 d))))

theorem hmain (κ : GSem nD τ sig → ℕ) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) S9 (V0 m d) from unscopedBufs_eq d (V0 m d)]
  simp only [main, wp_bind, wp_pure]
  iintro ⟨#Hctx, Hst, ⟨Hb, Hh, Hts, -⟩, HG⟩
  -- the table
  iapply (wp_hlo_within 𝒱 (SparseCore.T d) none Set.univ (op := opC) (S := S9) (show ({c'} : Finset (DevRef τ sig)) ⊆ S9 by decide) (V := V0 m d)) $$ [Hb Hh]
  · isplitl [Hb] <;> iassumption
  iintro ⟨Hb, Hh⟩
  ihave Hh := (show held (SparseCore.T d) S9 ((opC (F := F)).result (V0 m d)) ⊢ held (SparseCore.T d) S9 (V1 m d) from .rfl) $$ Hh
  rw [wp_ret]; imodintro
  -- the images
  iapply (copy_run m d _)
  isplitr; · iapply (ctx_levAts κ) $$ Hctx
  isplitl [Hst]; · iexact Hst
  isplitl [Hb]; · iexact Hb
  isplitl [Hh]; · iexact Hh
  isplitl [HG]; · iexact HG
  iintro ⟨Hst, Hb, Hh⟩
  -- the labels repeated
  iapply (wp_hlo_within 𝒱 (SparseCore.T d) none Set.univ (op := op1) (S := S9) (show ({a1', r1'} : Finset (DevRef τ sig)) ⊆ S9 by decide) (V := V2 m d)) $$ [Hb Hh]
  · isplitl [Hb] <;> iassumption
  iintro ⟨Hb, Hh⟩
  ihave Hh := (show held (SparseCore.T d) S9 ((op1 (F := F)).result (V2 m d)) ⊢ held (SparseCore.T d) S9 (V3 m d) from .rfl) $$ Hh
  rw [wp_ret]; imodintro
  iapply (wp_hlo_within 𝒱 (SparseCore.T d) none Set.univ (op := op2) (S := S9) (show ({r1', r2'} : Finset (DevRef τ sig)) ⊆ S9 by decide) (V := V3 m d)) $$ [Hb Hh]
  · isplitl [Hb] <;> iassumption
  iintro ⟨Hb, Hh⟩
  ihave Hh := (show held (SparseCore.T d) S9 ((op2 (F := F)).result (V3 m d)) ⊢ held (SparseCore.T d) S9 (V4 m d) from .rfl) $$ Hh
  rw [wp_ret]; imodintro
  -- the call
  ihave Hh := (call_split m d) $$ Hh
  icases Hh with ⟨Hs, Hback⟩
  iapply ((K (F := F)).wp_run (D (F := F)) 𝒱 (EH := EH) (P := P m) κ d 0) $$ [Hst Hs Hback Hb Hts]
  isplitr; · iexact Hctx
  isplitl [Hst]; · iexact Hst
  isplitl [Hs]; · iexact Hs
  iintro ⟨Hst, Hdn⟩
  ihave Hh := Hback $$ Hdn
  -- the labels read back
  iapply (wp_hlo_within 𝒱 (SparseCore.T d) none Set.univ (op := op4) (S := S9) (show ({r3', r4'} : Finset (DevRef τ sig)) ⊆ S9 by decide) (V := V5 m d)) $$ [Hb Hh]
  · isplitl [Hb] <;> iassumption
  iintro ⟨Hb, Hh⟩
  ihave Hh := (show held (SparseCore.T d) S9 ((op4 (F := F)).result (V5 m d)) ⊢ held (SparseCore.T d) S9 (V6 m d) from .rfl) $$ Hh
  rw [wp_ret]; imodintro
  iapply (wp_hlo_within 𝒱 (SparseCore.T d) none Set.univ (op := op5) (S := S9) (show ({r4', r5'} : Finset (DevRef τ sig)) ⊆ S9 by decide) (V := V6 m d)) $$ [Hb Hh]
  · isplitl [Hb] <;> iassumption
  iintro ⟨Hb, Hh⟩
  ihave Hh := (show held (SparseCore.T d) S9 ((op5 (F := F)).result (V6 m d)) ⊢ held (SparseCore.T d) S9 (V7 m d) from .rfl) $$ Hh
  rw [wp_ret]; imodintro; imodintro
  ihave Hh := (Entails.of_eq (held_S9 (F := F) d (V7 m d))) $$ Hh
  rw [V7_a0, V7_a1, V7_r0, V7_r5]
  icases Hh with ⟨-, Hx, Ha1, Ho, -, -, -, -, H5⟩
  isplitl [Hst]; · iexact Hst
  isplitl [Hx Ha1 Ho H5]
  · isplitl [Hx]; · iexact Hx
    isplitl [Ha1]; · iexact Ha1
    isplitl [Ho]; · iexact Ho
    iexact H5
  isplitl [Hb] <;> iassumption

/-! ## The program's run -/

def fq (s' : Phys nD τ sig (Elt F)) : Prop :=
  s'.mem.mem (loc0 d) = m (loc0 d) ∧ s'.mem.mem (loc1 d) = m (loc1 d) ∧ s'.mem.mem (locO d) = gOf d (m (loc0 d)) ∧ s'.mem.mem (loc d main_v5) = labOf (m (loc1 d))

theorem read_off (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (s' : Phys nD τ sig (Elt F)) : iprop(FIN m d ∗ SI s') ⊢ (⌜fq m d s'⌝ : sProp 𝕄) := by
  have h0 : iprop(FIN m d ∗ SI s') ⊢ (⌜s'.mem.mem (loc0 d) = m (loc0 d)⌝ : sProp 𝕄) := by
    iintro ⟨⟨H, -⟩, HS⟩; iapply (read_off s' _ _); isplitl [H] <;> iassumption
  have h1 : iprop(FIN m d ∗ SI s') ⊢ (⌜s'.mem.mem (loc1 d) = m (loc1 d)⌝ : sProp 𝕄) := by
    iintro ⟨⟨-, H, -⟩, HS⟩; iapply (read_off s' _ _); isplitl [H] <;> iassumption
  have h2 : iprop(FIN m d ∗ SI s') ⊢ (⌜s'.mem.mem (locO d) = gOf d (m (loc0 d))⌝ : sProp 𝕄) := by
    iintro ⟨⟨-, -, H, -⟩, HS⟩; iapply (read_off s' _ _); isplitl [H] <;> iassumption
  have h3 : iprop(FIN m d ∗ SI s') ⊢ (⌜s'.mem.mem (loc d main_v5) = labOf (m (loc1 d))⌝ : sProp 𝕄) := by
    iintro ⟨⟨-, -, -, H⟩, HS⟩; iapply (read_off s' _ _); isplitl [H] <;> iassumption
  exact fun x hx => ⟨h0 x hx, h1 x hx, h2 x hx, h3 x hx⟩

def QC : PUnit × MemSt nD τ sig (Elt F) → Prop := fun r =>
  (∀ c : Dev nD, r.2.mem (loc0 c) = m (loc0 c) ∧ r.2.mem (loc1 c) = m (loc1 c) ∧ r.2.mem (locO c) = gOf c (m (loc0 c)) ∧ r.2.mem (loc c main_v5) = labOf (m (loc1 c)))
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (G (F := F)) (FIN m) (u₀ (F := F)) (sep_elim_left.trans (hu₀ m)) (fun κ d => hmain m ρ d κ) (fq m) (hfin m) (QC m) (fun _ h hz => ⟨h, hz⟩)

end Cert.Proof.Main
-- ==== Proof.Same.lean ====
/-
  The program read over bit patterns and the one read over the reals are the same program: their bodies agree label by
  label, so the one run serves both.
-/
module

public import proofs.«01_k».proof.Proof.Main
public import proofs.«01_k».proof.Proof.Gen.Kernel

@[expose] public section

noncomputable section

namespace Cert.Proof.Same

open Idealize.ShloMosaic Idealize.SL.Sem

variable {F : FTy → Type} [FloatOps F]

/-! The bodies agree on each kind of processor, so the tables of bodies do. -/

theorem bodies_tc (p : Fin 2) (t) : Cert.Kernel.defs₀ (F := F) .tc p t = Cert.KernelIdeal.defs₀ (F := F) .tc p t :=
  match p, t with
  | 0, _ => by exact rfl
  | 1, _ => by exact rfl
theorem bodies_scalar (c) (p : Fin 2) (t) : Cert.Kernel.defs₀ (F := F) (.scScalar c) p t = Cert.KernelIdeal.defs₀ (F := F) (.scScalar c) p t :=
  match p, t with
  | 0, _ => by exact rfl
  | 1, _ => by exact rfl
theorem bodies_vector (c s) (p : Fin 2) (t) : Cert.Kernel.defs₀ (F := F) (.scVector c s) p t = Cert.KernelIdeal.defs₀ (F := F) (.scVector c s) p t := by exact rfl

theorem bodies : Cert.Kernel.defs₀ (F := F) = Cert.KernelIdeal.defs₀ (F := F) :=
  funext fun q => match q with
  | .tc => funext fun p => funext fun t => bodies_tc p t
  | .scScalar c => funext fun p => funext fun t => bodies_scalar c p t
  | .scVector c s => funext fun p => funext fun t => bodies_vector c s p t

theorem defs_eq : Cert.Kernel.defs (F := F) = Cert.KernelIdeal.defs (F := F) :=
  congrArg (fun D => (Cert.KernelIdeal.sc (F := F)).defs (Pipeline.defs Cert.KernelIdeal.pcfgs D)) (bodies (F := F))

/-- The run serves any table of bodies equal to the one it was shown for, -/
theorem run_of [∀ e, Nonempty (Elt F e)] (D) (hD : D = Cert.KernelIdeal.defs (F := F))
    (m : (ℓ : Loc Cert.KernelIdeal.nD Cert.KernelIdeal.τ Cert.KernelIdeal.sig) → Buf (Elt F) ℓ) (ρ : Dev Cert.KernelIdeal.nD → PrngReg) :
    θ_run D (Cert.KernelIdeal.threads (F := F)) ⟨m, fun _ => 0, ρ⟩ (Main.QC m) := by
  subst hD
  exact Main.run_main m ρ

set_option maxHeartbeats 2000000 in
/-- so it serves the program as printed. -/
theorem run_kernel [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.Kernel.defs (F := F)) (Cert.Kernel.threads (F := F)) ⟨m, fun _ => 0, ρ⟩ (Main.QC m) := run_of _ defs_eq m ρ

end Cert.Proof.Same
-- ==== Proof.Ref.lean ====
/-
  What the reference computes. Each quarter of a result is the argument's rows taken in a fixed order: the indices are
  nonnegative and below 64, so the wrap of negative indices, the bounds mask and the fill value play no part.
-/
module

public import proofs.«01_k».proof.Proof.Perm
public import proofs.«01_k».proof.Proof.Gen.ReferenceIdeal
public import Idealize.ShloMosaic.Lib.StableHlo.Predicate
public import Idealize.ShloMosaic.Lib.Pipeline.Value

@[expose] public section

noncomputable section

namespace Cert.Proof.Ref

open Cert.ReferenceIdeal Cert.ReferenceIdeal.Gen Cert.Proof.Perm
open Idealize.ShloMosaic

variable {F : FTy → Type} [FloatOps F]

/-! ## The four index lists -/

/-- The row of the result at place `j` of quarter `q`. -/
def rowOf (q : Fin 4) (j : Fin 64) : Fin 256 := ⟨64 * q.val + j.val, by omega⟩

/-- A list names the source rows of quarter `q`, each an index within the argument. -/
structure Names (lit : Fin 64 → BitVec 32) (q : Fin 4) : Prop where
  slt : ∀ j, IntOp.cmpi .slt (lit j) 0#32 = 0#1
  sge : ∀ j, IntOp.cmpi .sge (lit j) 0#32 = 1#1
  sle : ∀ j, IntOp.cmpi .sle (lit j) 63#32 = 1#1
  row : ∀ j, min (lit j).toInt.toNat 63 = (srcAt (rowOf q j)).val

theorem names0 : Names lit0 0 := ⟨by decide +kernel, by decide +kernel, by decide +kernel, by decide +kernel⟩
theorem names1 : Names lit1 1 := ⟨by decide +kernel, by decide +kernel, by decide +kernel, by decide +kernel⟩
theorem names2 : Names lit2 2 := ⟨by decide +kernel, by decide +kernel, by decide +kernel, by decide +kernel⟩
theorem names3 : Names lit3 3 := ⟨by decide +kernel, by decide +kernel, by decide +kernel, by decide +kernel⟩

/-- The start indices the reference gathers at: a list with its negative entries wrapped, as a column. -/
def col (lit : Fin 64 → BitVec 32) : S64x1.Idx → BitVec 32 :=
  broadcastInDim S64x1 ![0] bcast_S64_S64x1_0 (select (cmpi .slt (fun i => lit (S64.rowMajor i)) (broadcastInDim S64 ![] bcast_S_S64 (constantI S_ 32 0#32)))
    (addi (fun i => lit (S64.rowMajor i)) (broadcastInDim S64 ![] bcast_S_S64 (constantI S_ 32 64#32))) (fun i => lit (S64.rowMajor i)))

/-- Which of those indices lie within the argument. -/
def within (lit : Fin 64 → BitVec 32) : S64.Idx → BitVec 1 :=
  Host.reduce IntOp.andi (andi (cmpi .sge (col lit) (broadcastInDim S64x1 ![] bcast_S_S64x1 (constantI S_ 32 0#32)))
    (cmpi .sle (col lit) (broadcastInDim S64x1 ![0, 1] bcast_S1x1_S64x1_0_1 (broadcastInDim S1x1 ![1] bcast_S1_S1x1_1 (constantI S1 32 63#32)))))
    (constantI S_ 1 1#1) reducesTo_S64x1_S64_d1 h_S_

/-- A quarter of the images, and a quarter of the labels, as the reference takes them. -/
def takeX (lit : Fin 64 → BitVec 32) (x : S64x3x224x224.Idx → Elt F .f32) : S64x3x224x224.Idx → Elt F .f32 :=
  select (broadcastInDim S64x3x224x224 ![0] bcast_S64_S64x3x224x224_0 (within lit))
    (Host.gather gather_S64x3x224x224_S64x1_S64x3x224x224_123_0_n_n_0_1_13224224 x (col lit))
    (broadcastInDim S64x3x224x224 ![] bcast_S_S64x3x224x224 (constant S_ .f32 0x7FC00000#32))
def takeY (lit : Fin 64 → BitVec 32) (y : S64.Idx → Elt F .i32) : S64.Idx → Elt F .i32 :=
  select (within lit) (Host.gather gather_S64_S64x1_S64_n_0_n_n_0_1_1 y (col lit)) (broadcastInDim S64 ![] bcast_S_S64 (constantI S_ 32 2147483648#32))

/-! ## One quarter -/

variable {lit : Fin 64 → BitVec 32} {q : Fin 4}

theorem rank64 (i : S64.Idx) : S64.rowMajor i = i 0 := Fin.ext (Shape.rowMajor_val_one i)

theorem wrap (h : Names lit q) (j : Fin 64) (v : BitVec 32) : Scalar.select (IntOp.cmpi .slt (lit j) 0#32) v (lit j) = lit j := by
  rw [h.slt]; rfl
theorem both (h : Names lit q) (j : Fin 64) : IntOp.andi (IntOp.cmpi .sge (lit j) 0#32) (IntOp.cmpi .sle (lit j) 63#32) = 1#1 := by
  rw [h.sge, h.sle]; rfl

theorem col_apply (h : Names lit q) (i : S64x1.Idx) : col lit i = lit (i 0) := by
  exact (wrap h (S64.rowMajor _) _).trans (congrArg lit (rank64 _))

theorem foldl_one {ι : Type} (l : List ι) : l.foldl (fun r _ => IntOp.andi r 1#1) (1#1 : BitVec 1) = 1#1 := by
  induction l with
  | nil => rfl
  | cons _ l ih => exact ih

theorem within_apply (h : Names lit q) (i : S64.Idx) : within lit i = 1#1 := by
  unfold within
  rw [Host.reduce_eq_foldl]
  have e : (andi (cmpi .sge (col lit) (broadcastInDim S64x1 ![] bcast_S_S64x1 (constantI S_ 32 0#32)))
    (cmpi .sle (col lit) (broadcastInDim S64x1 ![0, 1] bcast_S1x1_S64x1_0_1 (broadcastInDim S1x1 ![1] bcast_S1_S1x1_1 (constantI S1 32 63#32)))))
      = fun _ => 1#1 := by
    funext k
    show IntOp.andi (IntOp.cmpi .sge (col lit k) 0#32) (IntOp.cmpi .sle (col lit k) 63#32) = 1#1
    rw [col_apply h]
    exact both h _
  rw [e]
  exact foldl_one _

/-- The images' gather. -/
abbrev dgX := gather_S64x3x224x224_S64x1_S64x3x224x224_123_0_n_n_0_1_13224224

theorem start_none {a : Fin 4} (h : a ≠ 0) (i : S64x3x224x224.Idx) (idx : IVec S64x1 32) : dgX.start i idx a = 0 :=
  dif_neg fun h' => h (List.mem_singleton.mp h')

/-- The images' gather at an index: axis 0 is the start index, clamped; the other axes are the result's own. -/
theorem gatherX {α : Type} (x : S64x3x224x224.Idx → α) (idx : IVec S64x1 32) (i : S64x3x224x224.Idx) (k : Fin 64)
    (hk : min (idx (fun | (0 : Fin 2) => i 0 | (1 : Fin 2) => (0 : Fin 1))).toInt.toNat 63 = k.val) :
    Host.gather gather_S64x3x224x224_S64x1_S64x3x224x224_123_0_n_n_0_1_13224224 x idx i
      = x (fun | (0 : Fin 4) => k | (1 : Fin 4) => i 1 | (2 : Fin 4) => i 2 | (3 : Fin 4) => i 3) := by
  unfold Host.gather
  refine congrArg x (funext fun a => Fin.ext ?_)
  generalize hD : gather_S64x3x224x224_S64x1_S64x3x224x224_123_0_n_n_0_1_13224224 = D
  show D.start i idx a + D.batchCoord i a + D.offCoord i a = _
  subst hD
  rw [GatherDims.batchCoord_eq_zero _ _ _ List.not_mem_nil, Nat.add_zero]
  match a with
  | (0 : Fin 4) =>
    rw [GatherDims.offCoord_eq_zero _ _ _ (fun h => ((GatherDims.mem_sKept _ _).mp h).1 (List.mem_singleton.mpr rfl)), Nat.add_zero]
    refine Eq.trans ?_ hk
    refine (dif_pos (show (0 : Fin 4) ∈ dgX.startIndexMap from List.mem_singleton.mpr rfl)).trans ?_
    show min (idx _).toInt.toNat (64 - 1) = _
    refine congrArg (fun v : BitVec 32 => min v.toInt.toNat 63) (congrArg idx (funext fun b => Fin.ext ?_))
    match b with
    | (0 : Fin 2) => rfl
    | (1 : Fin 2) => rfl
  | (1 : Fin 4) => exact (congrArg₂ (· + ·) (start_none (by decide) i idx) (dif_pos (show (1 : Fin 4) ∈ dgX.sKept by decide))).trans (Nat.zero_add _)
  | (2 : Fin 4) => exact (congrArg₂ (· + ·) (start_none (by decide) i idx) (dif_pos (show (2 : Fin 4) ∈ dgX.sKept by decide))).trans (Nat.zero_add _)
  | (3 : Fin 4) => exact (congrArg₂ (· + ·) (start_none (by decide) i idx) (dif_pos (show (3 : Fin 4) ∈ dgX.sKept by decide))).trans (Nat.zero_add _)

theorem takeX_apply (h : Names lit q) (x : S64x3x224x224.Idx → Elt F .f32) (i : S64x3x224x224.Idx) :
    takeX lit x i = x (fun | (0 : Fin 4) => srcAt (rowOf q (i 0)) | (1 : Fin 4) => i 1 | (2 : Fin 4) => i 2 | (3 : Fin 4) => i 3) := by
  show Scalar.select (within lit _) _ _ = _
  rw [within_apply h]
  exact gatherX x (col lit) i _ (by rw [col_apply h]; exact h.row _)

theorem takeY_apply (h : Names lit q) (y : S64.Idx → Elt F .i32) (i : S64.Idx) :
    takeY lit y i = y (fun | (0 : Fin 1) => srcAt (rowOf q (i 0))) := by
  show Scalar.select (within lit i) _ _ = _
  rw [within_apply h]
  have hi : i = Shape.Idx.ofFin (i 0) := funext fun a => by
    obtain rfl : a = (0 : Fin 1) := Subsingleton.elim (α := Fin 1) _ _
    exact (Shape.Idx.ofFin_zero _).symm
  show Host.gather gather_S64_S64x1_S64_n_0_n_n_0_1_1 y (col lit) i = _
  rw [hi]
  refine (StableHlo.Predicate.gather_take gather_S64_S64x1_S64_n_0_n_n_0_1_1 rfl rfl rfl rfl y (col lit) (i 0) (by decide)).trans ?_
  refine congrArg y (funext fun a => ?_)
  obtain rfl : a = (0 : Fin 1) := Subsingleton.elim (α := Fin 1) _ _
  rw [Shape.Idx.ofFin_zero]
  refine Fin.ext ?_
  show min (col lit _).toInt.toNat (64 - 1) = _
  rw [col_apply h]
  exact h.row _

end Cert.Proof.Ref
-- ==== Proof.Joined.lean ====
/-
  The reference's results whole: its four quarters, one after another, are the argument's rows in the order `srcAt` gives.
-/
module

public import proofs.«01_k».proof.Proof.Ref

@[expose] public section

noncomputable section

namespace Cert.Proof.Joined

open Cert.ReferenceIdeal Cert.ReferenceIdeal.Gen Cert.Proof.Perm Cert.Proof.Ref
open Idealize.ShloMosaic

variable {F : FTy → Type} [FloatOps F]

/-- The images' rows, and the labels, in the result's order. -/
def permX (x : S64x3x224x224.Idx → Elt F .f32) : S256x3x224x224.Idx → Elt F .f32 :=
  fun i => x (fun | (0 : Fin 4) => srcAt (i 0) | (1 : Fin 4) => i 1 | (2 : Fin 4) => i 2 | (3 : Fin 4) => i 3)
def permY (y : S64.Idx → Elt F .i32) : S256.Idx → Elt F .i32 := fun i => y (fun | (0 : Fin 1) => srcAt (i 0))

/-- A row's quarter, and its place in it. -/
abbrev qOf (r : Fin 256) : Fin 4 := ⟨r.val / 64, by omega⟩
abbrev jOf (r : Fin 256) : Fin 64 := ⟨r.val % 64, by omega⟩
theorem rowOf_qj (r : Fin 256) : rowOf (qOf r) (jOf r) = r := Fin.ext (Nat.div_add_mod r.val 64)

/-- A quarter as a slab of the stack. -/
abbrev slabX (z : S64x3x224x224.Idx → Elt F .f32) : S1x64x3x224x224.Idx → Elt F .f32 :=
  broadcastInDim S1x64x3x224x224 ![1, 2, 3, 4] bcast_S64x3x224x224_S1x64x3x224x224_1_2_3_4 z
abbrev slabY (z : S64.Idx → Elt F .i32) : S1x64.Idx → Elt F .i32 := broadcastInDim S1x64 ![1] bcast_S64_S1x64_1 z

/-- The stack of the four quarters. -/
def stackX (x : S64x3x224x224.Idx → Elt F .f32) : S4x64x3x224x224.Idx → Elt F .f32 :=
  concatenate S4x64x3x224x224 0 [⟨S1x64x3x224x224, slabX (takeX lit0 x)⟩, ⟨S1x64x3x224x224, slabX (takeX lit1 x)⟩,
    ⟨S1x64x3x224x224, slabX (takeX lit2 x)⟩, ⟨S1x64x3x224x224, slabX (takeX lit3 x)⟩]
    concatenates_S1x64x3x224x224_S1x64x3x224x224_S1x64x3x224x224_S1x64x3x224x224_S4x64x3x224x224_d0
def stackY (y : S64.Idx → Elt F .i32) : S4x64.Idx → Elt F .i32 :=
  concatenate S4x64 0 [⟨S1x64, slabY (takeY lit0 y)⟩, ⟨S1x64, slabY (takeY lit1 y)⟩, ⟨S1x64, slabY (takeY lit2 y)⟩, ⟨S1x64, slabY (takeY lit3 y)⟩]
    concatenates_S1x64_S1x64_S1x64_S1x64_S4x64_d0

theorem slabX_apply {lit : Fin 64 → BitVec 32} {q : Fin 4} (h : Names lit q) (x : S64x3x224x224.Idx → Elt F .f32) (i : S1x64x3x224x224.Idx) :
    slabX (takeX lit x) i
      = x (fun | (0 : Fin 4) => srcAt (rowOf q (i 1)) | (1 : Fin 4) => i 2 | (2 : Fin 4) => i 3 | (3 : Fin 4) => i 4) :=
  takeX_apply h x _
theorem slabY_apply {lit : Fin 64 → BitVec 32} {q : Fin 4} (h : Names lit q) (y : S64.Idx → Elt F .i32) (i : S1x64.Idx) :
    slabY (takeY lit y) i = y (fun | (0 : Fin 1) => srcAt (rowOf q (i 1))) :=
  takeY_apply h y _

/-- The slab's index under a stack's. -/
abbrev inX (i : S4x64x3x224x224.Idx) : S1x64x3x224x224.Idx :=
  fun | (0 : Fin 5) => (0 : Fin 1) | (1 : Fin 5) => i 1 | (2 : Fin 5) => i 2 | (3 : Fin 5) => i 3 | (4 : Fin 5) => i 4
abbrev inY (i : S4x64.Idx) : S1x64.Idx := fun | (0 : Fin 2) => (0 : Fin 1) | (1 : Fin 2) => i 1

theorem inX_val (i : S4x64x3x224x224.Idx) (b : Fin 5) (hb : b ≠ 0) : (inX i b).val = (i b).val :=
  match b with
  | (0 : Fin 5) => absurd rfl hb
  | (1 : Fin 5) => rfl
  | (2 : Fin 5) => rfl
  | (3 : Fin 5) => rfl
  | (4 : Fin 5) => rfl
theorem inY_val (i : S4x64.Idx) (b : Fin 2) (hb : b ≠ 0) : (inY i b).val = (i b).val :=
  match b with
  | (0 : Fin 2) => absurd rfl hb
  | (1 : Fin 2) => rfl

theorem stackX_apply (x : S64x3x224x224.Idx → Elt F .f32) (i : S4x64x3x224x224.Idx) :
    stackX x i = x (fun | (0 : Fin 4) => srcAt (rowOf (i 0) (i 1)) | (1 : Fin 4) => i 2 | (2 : Fin 4) => i 3 | (3 : Fin 4) => i 4) := by
  have key : ∀ (k : Nat) (hk : k < 4) (lit : Fin 64 → BitVec 32), Names lit ⟨k, hk⟩ → (i 0).val = k →
      stackX x i = slabX (takeX lit x) (inX i) → stackX x i = _ := fun k hk lit h hi e =>
    e.trans ((slabX_apply h x (inX i)).trans (by rw [show (⟨k, hk⟩ : Fin 4) = i 0 from Fin.ext hi.symm]))
  have h4 : (i 0).val < 4 := (i 0).isLt
  rcases (by omega : (i 0).val = 0 ∨ (i 0).val = 1 ∨ (i 0).val = 2 ∨ (i 0).val = 3) with h | h | h | h
  · exact key 0 (by decide) lit0 names0 h (concatenate_apply_piece 0 _ _ i 0 (by show 0 < 4; decide) S1x64x3x224x224 (slabX (takeX lit0 x)) rfl rfl 0 rfl (inX i) (inX_val i) h.symm)
  · exact key 1 (by decide) lit1 names1 h (concatenate_apply_piece 0 _ _ i 1 (by show 1 < 4; decide) S1x64x3x224x224 (slabX (takeX lit1 x)) rfl rfl 1 rfl (inX i) (inX_val i) h.symm)
  · exact key 2 (by decide) lit2 names2 h (concatenate_apply_piece 0 _ _ i 2 (by show 2 < 4; decide) S1x64x3x224x224 (slabX (takeX lit2 x)) rfl rfl 2 rfl (inX i) (inX_val i) h.symm)
  · exact key 3 (by decide) lit3 names3 h (concatenate_apply_piece 0 _ _ i 3 (by show 3 < 4; decide) S1x64x3x224x224 (slabX (takeX lit3 x)) rfl rfl 3 rfl (inX i) (inX_val i) h.symm)

theorem stackY_apply (y : S64.Idx → Elt F .i32) (i : S4x64.Idx) : stackY y i = y (fun | (0 : Fin 1) => srcAt (rowOf (i 0) (i 1))) := by
  have key : ∀ (k : Nat) (hk : k < 4) (lit : Fin 64 → BitVec 32), Names lit ⟨k, hk⟩ → (i 0).val = k →
      stackY y i = slabY (takeY lit y) (inY i) → stackY y i = _ := fun k hk lit h hi e =>
    e.trans ((slabY_apply h y (inY i)).trans (by rw [show (⟨k, hk⟩ : Fin 4) = i 0 from Fin.ext hi.symm]))
  have h4 : (i 0).val < 4 := (i 0).isLt
  rcases (by omega : (i 0).val = 0 ∨ (i 0).val = 1 ∨ (i 0).val = 2 ∨ (i 0).val = 3) with h | h | h | h
  · exact key 0 (by decide) lit0 names0 h (concatenate_apply_piece 0 _ _ i 0 (by show 0 < 4; decide) S1x64 (slabY (takeY lit0 y)) rfl rfl 0 rfl (inY i) (inY_val i) h.symm)
  · exact key 1 (by decide) lit1 names1 h (concatenate_apply_piece 0 _ _ i 1 (by show 1 < 4; decide) S1x64 (slabY (takeY lit1 y)) rfl rfl 1 rfl (inY i) (inY_val i) h.symm)
  · exact key 2 (by decide) lit2 names2 h (concatenate_apply_piece 0 _ _ i 2 (by show 2 < 4; decide) S1x64 (slabY (takeY lit2 y)) rfl rfl 2 rfl (inY i) (inY_val i) h.symm)
  · exact key 3 (by decide) lit3 names3 h (concatenate_apply_piece 0 _ _ i 3 (by show 3 < 4; decide) S1x64 (slabY (takeY lit3 y)) rfl rfl 3 rfl (inY i) (inY_val i) h.symm)

/-- Row `r` of a result is place `r % 64` of quarter `r / 64`. -/
abbrev atX (i : S256x3x224x224.Idx) : S4x64x3x224x224.Idx :=
  fun | (0 : Fin 5) => qOf (i 0) | (1 : Fin 5) => jOf (i 0) | (2 : Fin 5) => i 1 | (3 : Fin 5) => i 2 | (4 : Fin 5) => i 3
abbrev atY (i : S256.Idx) : S4x64.Idx := fun | (0 : Fin 2) => qOf (i 0) | (1 : Fin 2) => jOf (i 0)

theorem imagesEq (x : S64x3x224x224.Idx → Elt F .f32) :
    shapeCast S256x3x224x224 (stackX x) shapeCasts_S4x64x3x224x224_S256x3x224x224 = permX x := by
  funext i
  have hc : Shape.reshapeEquiv (s := S4x64x3x224x224) (s' := S256x3x224x224) shapeCasts_S4x64x3x224x224_S256x3x224x224.symm i = atX i :=
    Shape.reshapeEquiv_eq_of_rowMajor _ (by
      rw [Shape.rowMajor_val_five, Shape.rowMajor_val_four]
      have := Nat.div_add_mod (i 0).val 64
      show ((((i 0).val / 64 * 64 + (i 0).val % 64) * 3 + (i 1).val) * 224 + (i 2).val) * 224 + (i 3).val
        = (((i 0).val * 3 + (i 1).val) * 224 + (i 2).val) * 224 + (i 3).val
      rw [Nat.mul_comm ((i 0).val / 64), this])
  refine (congrArg (stackX x) hc).trans ((stackX_apply x (atX i)).trans ?_)
  show x _ = x _
  have e : rowOf (qOf (i 0)) (jOf (i 0)) = i 0 := rowOf_qj (i 0)
  exact congrArg (fun r : Fin 256 => x (fun | (0 : Fin 4) => srcAt r | (1 : Fin 4) => i 1 | (2 : Fin 4) => i 2 | (3 : Fin 4) => i 3)) e

theorem labelsEq (y : S64.Idx → Elt F .i32) : shapeCast S256 (stackY y) shapeCasts_S4x64_S256 = permY y := by
  funext i
  have hc : Shape.reshapeEquiv (s := S4x64) (s' := S256) shapeCasts_S4x64_S256.symm i = atY i :=
    Shape.reshapeEquiv_eq_of_rowMajor _ (by
      rw [Shape.rowMajor_val_two, Shape.rowMajor_val_one]
      show (i 0).val / 64 * 64 + (i 0).val % 64 = (i 0).val
      rw [Nat.mul_comm, Nat.div_add_mod])
  refine (congrArg (stackY y) hc).trans ((stackY_apply y (atY i)).trans ?_)
  have e : rowOf (qOf (i 0)) (jOf (i 0)) = i 0 := rowOf_qj (i 0)
  exact congrArg (fun r : Fin 256 => y (fun | (0 : Fin 1) => srcAt r)) e

end Cert.Proof.Joined
-- ==== Proof.lean ====
/-
  The certificate's claim. One run of the kernel over any float values and one of the reference give the four frames, the
  equality of both results over the reals, and their equality bit for bit.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Same
public import proofs.«01_k».proof.Proof.Joined
public import Idealize.ShloMosaic.Adequacy
public import Idealize.ShloMosaic.Init

@[expose] public section

noncomputable section

namespace Cert.Proof

open Idealize.ShloMosaic Idealize.SL.Sem

/-! ## The runs, with what the results hold -/

section Runs

variable {F : FTy → Type} [FloatOps F]

/-- The kernel's run: both results are the arguments' rows in the order `srcAt` gives, the arguments stay. -/
theorem kernel_run [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ fun r => ∀ c : Dev Cert.KernelIdeal.nD,
      r.2.mem ((c.tc : Thread Cert.KernelIdeal.nD Cert.KernelIdeal.τ).loc Cert.KernelIdeal.main_v0)
          = Joined.permX (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_v5)
          = Joined.permY (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1) :=
  (θ_run Cert.KernelIdeal.defs _ _).mono
    (fun _ h c => ⟨(h.1 c).2.2.1, (h.1 c).2.2.2, (h.1 c).1, (h.1 c).2.1⟩) (Main.run_main m ρ)

/-- The reference's run: the same. -/
theorem reference_run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      fun r => ∀ c : Dev Cert.ReferenceIdeal.nD,
      r.2.mem ((c.tc : Thread Cert.ReferenceIdeal.nD Cert.ReferenceIdeal.τ).loc Cert.ReferenceIdeal.main_v18)
          = Joined.permX (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v19)
          = Joined.permY (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono
    (fun _ h c => ⟨(h c).1.trans (Joined.imagesEq _), (h c).2.1.trans (Joined.labelsEq _), (h c).2.2⟩) (Cert.ReferenceIdeal.Value.run m ρ)

end Runs

/-! ## The frames -/

theorem frame_kernel : Cert.quiescent_Kernel := fun m ρ _ =>
  (θ_run Cert.Kernel.defs _ _).mono (fun _ h => ⟨fun c => ⟨(h.1 c).1, (h.1 c).2.1⟩, h.2⟩) (Same.run_kernel (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (Main.run_main (F := Ideal) m ρ)

theorem frame_referenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩) (reference_run (F := Ideal) m ρ)

theorem frame_reference : Cert.quiescent_Reference := fun m ρ _ =>
  (θ_run Cert.Reference.defs _ _).mono
    (fun r h => ⟨fun c => (h c).2.2, Idealize.ShloMosaic.sem_eq_zero_of_no_sems (by decide) r.2⟩) (Cert.Reference.Value.run (F := Bits) m ρ)

/-! ## The values -/

theorem algebraic : Cert.algebraic_KernelIdeal_ReferenceIdeal := fun m ρ m' ρ' _ hagree =>
  ⟨fun c => Joined.permX (F := Ideal) (m ((c.tc : Thread Cert.KernelIdeal.nD Cert.KernelIdeal.τ).loc Cert.KernelIdeal.main_arg0)),
    fun c => Joined.permY (F := Ideal) (m ((c.tc : Thread Cert.KernelIdeal.nD Cert.KernelIdeal.τ).loc Cert.KernelIdeal.main_arg1)),
    kernel_run (F := Ideal) m ρ,
    (θ_run Cert.ReferenceIdeal.defs _ _).mono
      (fun _ h c => ⟨(h c).1.trans (congrArg (Joined.permX (F := Ideal)) (hagree c).1),
        (h c).2.1.trans (congrArg (Joined.permY (F := Ideal)) (hagree c).2), (h c).2.2⟩)
      (reference_run (F := Ideal) m' ρ')⟩

theorem bitexact : Cert.bitexact_Kernel_Reference := fun m ρ m' ρ' _ hagree =>
  ⟨fun c => Joined.permX (F := Bits) (m ((c.tc : Thread Cert.Kernel.nD Cert.Kernel.τ).loc Cert.Kernel.main_arg0)),
    fun c => Joined.permY (F := Bits) (m ((c.tc : Thread Cert.Kernel.nD Cert.Kernel.τ).loc Cert.Kernel.main_arg1)),
    (θ_run Cert.Kernel.defs _ _).mono (fun _ h c => ⟨(h.1 c).2.2.1, (h.1 c).2.2.2, (h.1 c).1, (h.1 c).2.1⟩) (Same.run_kernel (F := Bits) m ρ),
    (θ_run Cert.Reference.defs _ _).mono
      (fun _ h c => ⟨((h c).1.trans (Joined.imagesEq _)).trans (congrArg (Joined.permX (F := Bits)) (hagree c).1),
        ((h c).2.1.trans (Joined.labelsEq _)).trans (congrArg (Joined.permY (F := Bits)) (hagree c).2), (h c).2.2⟩)
      (Cert.Reference.Value.run (F := Bits) m' ρ')⟩

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
